-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S32768x1024 : Shape := ⟨2, ![32768, 1024]⟩
abbrev S_ : Shape := ⟨0, ![]⟩
abbrev S3x4 : Shape := ⟨2, ![3, 4]⟩
abbrev S2x3x4 : Shape := ⟨3, ![2, 3, 4]⟩
abbrev S2x3x2 : Shape := ⟨3, ![2, 3, 2]⟩
abbrev S1x1 : Shape := ⟨2, ![1, 1]⟩
abbrev S512x1024 : Shape := ⟨2, ![512, 1024]⟩
abbrev S1x1x1 : Shape := ⟨3, ![1, 1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S32768x1024, .bf16⟩
  | _, _ => ⟨S8192x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 1 → Bool
  | ⟨0, _⟩ => false
  | _ => false

abbrev dmaSemScoped : Fin 193 → Bool
  | ⟨i, _⟩ => dmaSemScopedAt i

abbrev sig : RefSig :=
  (ofTc nBuf bufTy 1 193 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_40 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_39 : BitVec 32 := 16#32
  let v68 : BitVec 32 := Scalar.muli v11 c16_i32_39
  let v69 : BitVec 32 := Scalar.addi c0_i32_40 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v70 : BitVec 32 := Scalar.muli v5 c4_i32_41
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v72 : BitVec 32 := Scalar.muli v8 c1_i32_42
  let v73 : BitVec 32 := Scalar.addi v71 v72
  v73.toNat
def k0_dev2 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v74 : BitVec 32 := Scalar.muli v2 c16_i32_44
  let v75 : BitVec 32 := Scalar.addi c0_i32_45 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_46 : BitVec 32 := 4#32
  let v76 : BitVec 32 := Scalar.muli v12 c4_i32_46
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v78 : BitVec 32 := Scalar.muli v8 c1_i32_47
  let v79 : BitVec 32 := Scalar.addi v77 v78
  v79.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v80 : BitVec 32 := Scalar.extui v13
  let c0_i32_48 : BitVec 32 := 0#32
  let v81 : BitVec 1 := Scalar.cmpi .ne v80 c0_i32_48
  v81

def k0_dev3 (d0 : Dev nD) : Nat :=
  let c0_i32_369 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_368 : BitVec 32 := 16#32
  let v581 : BitVec 32 := Scalar.muli v2 c16_i32_368
  let v582 : BitVec 32 := Scalar.addi c0_i32_369 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_370 : BitVec 32 := 4#32
  let v583 : BitVec 32 := Scalar.muli v5 c4_i32_370
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_371 : BitVec 32 := 1#32
  let v585 : BitVec 32 := Scalar.muli v9 c1_i32_371
  let v586 : BitVec 32 := Scalar.addi v584 v585
  v586.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v82 : BitVec 32 := Scalar.extui v14
  let c0_i32_49 : BitVec 32 := 0#32
  let v83 : BitVec 1 := Scalar.cmpi .ne v82 c0_i32_49
  v83

def k0_dev4 (d0 : Dev nD) : Nat :=
  let c0_i32_369 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_368 : BitVec 32 := 16#32
  let v581 : BitVec 32 := Scalar.muli v2 c16_i32_368
  let v582 : BitVec 32 := Scalar.addi c0_i32_369 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_370 : BitVec 32 := 4#32
  let v583 : BitVec 32 := Scalar.muli v5 c4_i32_370
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_371 : BitVec 32 := 1#32
  let v585 : BitVec 32 := Scalar.muli v10 c1_i32_371
  let v586 : BitVec 32 := Scalar.addi v584 v585
  v586.toNat
def k0_amt1 (d0 : Dev nD) : BitVec 32 :=
  let c2_i32_50 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v84 : BitVec 32 := Scalar.extui v13
  let v85 : BitVec 32 := Scalar.addi c2_i32_50 v84
  let c0_i32 : BitVec 32 := 0#32
  let v14 : BitVec 1 := Scalar.cmpi .sgt v8 c0_i32
  let v86 : BitVec 32 := Scalar.extui v14
  let v87 : BitVec 32 := Scalar.addi v85 v86
  v87

def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v88 : BitVec 32 := Scalar.muli v8 c8192_i32
  let c0_i32_51 : BitVec 32 := 0#32
  ![v88.toNat, 0]
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v92 : BitVec 32 := Scalar.extui v13
  let c0_i32_53 : BitVec 32 := 0#32
  let v93 : BitVec 1 := Scalar.cmpi .ne v92 c0_i32_53
  v93

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c0_i32_369 : BitVec 32 := 0#32
  let v584 : BitVec 32 := Scalar.addi v583 c0_i32_369
  let c0_i32_378 : BitVec 32 := 0#32
  ![v584.toNat, 0]
def k0_off3 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32 : BitVec 32 := 2048#32
  let v90 : BitVec 32 := Scalar.muli v26 c2048_i32
  let c0_i32_52 : BitVec 32 := 0#32
  let v91 : BitVec 32 := Scalar.addi v90 c0_i32_52
  let c0_i32_379 : BitVec 32 := 0#32
  ![v91.toNat, 0]
def k0_dev5 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_377 : BitVec 32 := 1#32
  let v589 : BitVec 32 := Scalar.muli v9 c1_i32_377
  let v590 : BitVec 32 := Scalar.addi v588 v589
  v590.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v94 : BitVec 32 := Scalar.extui v14
  let c0_i32_54 : BitVec 32 := 0#32
  let v95 : BitVec 1 := Scalar.cmpi .ne v94 c0_i32_54
  v95

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c0_i32_369 : BitVec 32 := 0#32
  let v584 : BitVec 32 := Scalar.addi v583 c0_i32_369
  let c0_i32_378 : BitVec 32 := 0#32
  ![v584.toNat, 0]
def k0_off5 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32 : BitVec 32 := 2048#32
  let v90 : BitVec 32 := Scalar.muli v26 c2048_i32
  let c0_i32_52 : BitVec 32 := 0#32
  let v91 : BitVec 32 := Scalar.addi v90 c0_i32_52
  let c0_i32_379 : BitVec 32 := 0#32
  ![v91.toNat, 0]
def k0_dev6 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_377 : BitVec 32 := 1#32
  let v589 : BitVec 32 := Scalar.muli v10 c1_i32_377
  let v590 : BitVec 32 := Scalar.addi v588 v589
  v590.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v98 : BitVec 32 := Scalar.extui v13
  let c0_i32_56 : BitVec 32 := 0#32
  let v99 : BitVec 1 := Scalar.cmpi .ne v98 c0_i32_56
  v99

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c512_i32_369 : BitVec 32 := 512#32
  let v584 : BitVec 32 := Scalar.addi v583 c512_i32_369
  let c0_i32_378 : BitVec 32 := 0#32
  ![v584.toNat, 0]
def k0_off7 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_55 : BitVec 32 := 2048#32
  let v96 : BitVec 32 := Scalar.muli v26 c2048_i32_55
  let c512_i32 : BitVec 32 := 512#32
  let v97 : BitVec 32 := Scalar.addi v96 c512_i32
  let c0_i32_379 : BitVec 32 := 0#32
  ![v97.toNat, 0]
def k0_dev7 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_377 : BitVec 32 := 1#32
  let v589 : BitVec 32 := Scalar.muli v9 c1_i32_377
  let v590 : BitVec 32 := Scalar.addi v588 v589
  v590.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v100 : BitVec 32 := Scalar.extui v14
  let c0_i32_57 : BitVec 32 := 0#32
  let v101 : BitVec 1 := Scalar.cmpi .ne v100 c0_i32_57
  v101

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c512_i32_369 : BitVec 32 := 512#32
  let v584 : BitVec 32 := Scalar.addi v583 c512_i32_369
  let c0_i32_378 : BitVec 32 := 0#32
  ![v584.toNat, 0]
def k0_off9 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_55 : BitVec 32 := 2048#32
  let v96 : BitVec 32 := Scalar.muli v26 c2048_i32_55
  let c512_i32 : BitVec 32 := 512#32
  let v97 : BitVec 32 := Scalar.addi v96 c512_i32
  let c0_i32_379 : BitVec 32 := 0#32
  ![v97.toNat, 0]
def k0_dev8 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_377 : BitVec 32 := 1#32
  let v589 : BitVec 32 := Scalar.muli v10 c1_i32_377
  let v590 : BitVec 32 := Scalar.addi v588 v589
  v590.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v104 : BitVec 32 := Scalar.extui v13
  let c0_i32_59 : BitVec 32 := 0#32
  let v105 : BitVec 1 := Scalar.cmpi .ne v104 c0_i32_59
  v105

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c1024_i32_369 : BitVec 32 := 1024#32
  let v584 : BitVec 32 := Scalar.addi v583 c1024_i32_369
  let c0_i32_378 : BitVec 32 := 0#32
  ![v584.toNat, 0]
def k0_off11 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_58 : BitVec 32 := 2048#32
  let v102 : BitVec 32 := Scalar.muli v26 c2048_i32_58
  let c1024_i32 : BitVec 32 := 1024#32
  let v103 : BitVec 32 := Scalar.addi v102 c1024_i32
  let c0_i32_379 : BitVec 32 := 0#32
  ![v103.toNat, 0]
def k0_dev9 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_377 : BitVec 32 := 1#32
  let v589 : BitVec 32 := Scalar.muli v9 c1_i32_377
  let v590 : BitVec 32 := Scalar.addi v588 v589
  v590.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v106 : BitVec 32 := Scalar.extui v14
  let c0_i32_60 : BitVec 32 := 0#32
  let v107 : BitVec 1 := Scalar.cmpi .ne v106 c0_i32_60
  v107

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c1024_i32_369 : BitVec 32 := 1024#32
  let v584 : BitVec 32 := Scalar.addi v583 c1024_i32_369
  let c0_i32_378 : BitVec 32 := 0#32
  ![v584.toNat, 0]
def k0_off13 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_58 : BitVec 32 := 2048#32
  let v102 : BitVec 32 := Scalar.muli v26 c2048_i32_58
  let c1024_i32 : BitVec 32 := 1024#32
  let v103 : BitVec 32 := Scalar.addi v102 c1024_i32
  let c0_i32_379 : BitVec 32 := 0#32
  ![v103.toNat, 0]
def k0_dev10 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_377 : BitVec 32 := 1#32
  let v589 : BitVec 32 := Scalar.muli v10 c1_i32_377
  let v590 : BitVec 32 := Scalar.addi v588 v589
  v590.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v110 : BitVec 32 := Scalar.extui v13
  let c0_i32_62 : BitVec 32 := 0#32
  let v111 : BitVec 1 := Scalar.cmpi .ne v110 c0_i32_62
  v111

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c1536_i32_369 : BitVec 32 := 1536#32
  let v584 : BitVec 32 := Scalar.addi v583 c1536_i32_369
  let c0_i32_378 : BitVec 32 := 0#32
  ![v584.toNat, 0]
def k0_off15 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_61 : BitVec 32 := 2048#32
  let v108 : BitVec 32 := Scalar.muli v26 c2048_i32_61
  let c1536_i32 : BitVec 32 := 1536#32
  let v109 : BitVec 32 := Scalar.addi v108 c1536_i32
  let c0_i32_379 : BitVec 32 := 0#32
  ![v109.toNat, 0]
def k0_dev11 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_377 : BitVec 32 := 1#32
  let v589 : BitVec 32 := Scalar.muli v9 c1_i32_377
  let v590 : BitVec 32 := Scalar.addi v588 v589
  v590.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v112 : BitVec 32 := Scalar.extui v14
  let c0_i32_63 : BitVec 32 := 0#32
  let v113 : BitVec 1 := Scalar.cmpi .ne v112 c0_i32_63
  v113

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32_367 : BitVec 32 := 8192#32
  let v581 : BitVec 32 := Scalar.muli v8 c8192_i32_367
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_368 : BitVec 32 := 2048#32
  let v582 : BitVec 32 := Scalar.muli v26 c2048_i32_368
  let v583 : BitVec 32 := Scalar.addi v581 v582
  let c1536_i32_369 : BitVec 32 := 1536#32
  let v584 : BitVec 32 := Scalar.addi v583 c1536_i32_369
  let c0_i32_378 : BitVec 32 := 0#32
  ![v584.toNat, 0]
def k0_off17 (d0 : Dev nD) : Fin 2 → Nat :=
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_61 : BitVec 32 := 2048#32
  let v108 : BitVec 32 := Scalar.muli v26 c2048_i32_61
  let c1536_i32 : BitVec 32 := 1536#32
  let v109 : BitVec 32 := Scalar.addi v108 c1536_i32
  let c0_i32_379 : BitVec 32 := 0#32
  ![v109.toNat, 0]
def k0_dev12 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_374 : BitVec 32 := 16#32
  let v585 : BitVec 32 := Scalar.muli v2 c16_i32_374
  let v586 : BitVec 32 := Scalar.addi c0_i32_375 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v587 : BitVec 32 := Scalar.muli v5 c4_i32_376
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_377 : BitVec 32 := 1#32
  let v589 : BitVec 32 := Scalar.muli v10 c1_i32_377
  let v590 : BitVec 32 := Scalar.addi v588 v589
  v590.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_64 : BitVec 32 := 0#32
  let v114 : BitVec 1 := Scalar.cmpi .sgt v8 c0_i32_64
  let v115 : BitVec 32 := Scalar.extui v114
  let c0_i32_65 : BitVec 32 := 0#32
  let v116 : BitVec 1 := Scalar.cmpi .ne v115 c0_i32_65
  v116

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_378 : BitVec 32 := 0#32
  ![v586.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_413 : BitVec 32 := 0#32
  ![v586.toNat, 0]
def k0_dev13 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev14 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev15 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond13 (d0 : Dev nD) : BitVec 1 :=
  let c3_i32_66 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v117 : BitVec 32 := Scalar.subi c3_i32_66 v8
  let c0_i32_67 : BitVec 32 := 0#32
  let v118 : BitVec 1 := Scalar.cmpi .sgt v117 c0_i32_67
  let v119 : BitVec 32 := Scalar.extui v118
  let c0_i32_68 : BitVec 32 := 0#32
  let v120 : BitVec 1 := Scalar.cmpi .ne v119 c0_i32_68
  v120

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_378 : BitVec 32 := 0#32
  ![v586.toNat, 0]
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_413 : BitVec 32 := 0#32
  ![v586.toNat, 0]
def k0_dev16 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev17 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev18 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v121 : BitVec 1 := Scalar.cmpi .sgt v8 c0_i32_69
  let v122 : BitVec 32 := Scalar.extui v121
  let c0_i32_70 : BitVec 32 := 0#32
  let v123 : BitVec 1 := Scalar.cmpi .ne v122 c0_i32_70
  v123

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_378 : BitVec 32 := 0#32
  ![v586.toNat, 0]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_413 : BitVec 32 := 0#32
  ![v586.toNat, 0]
def k0_dev19 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev20 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev21 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond17 (d0 : Dev nD) : BitVec 1 :=
  let c3_i32_71 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v124 : BitVec 32 := Scalar.subi c3_i32_71 v8
  let c0_i32_72 : BitVec 32 := 0#32
  let v125 : BitVec 1 := Scalar.cmpi .sgt v124 c0_i32_72
  let v126 : BitVec 32 := Scalar.extui v125
  let c0_i32_73 : BitVec 32 := 0#32
  let v127 : BitVec 1 := Scalar.cmpi .ne v126 c0_i32_73
  v127

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_378 : BitVec 32 := 0#32
  ![v586.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_413 : BitVec 32 := 0#32
  ![v586.toNat, 0]
def k0_dev22 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev23 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev24 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_74 : BitVec 32 := 0#32
  let v128 : BitVec 1 := Scalar.cmpi .sgt v8 c0_i32_74
  let v129 : BitVec 32 := Scalar.extui v128
  let c0_i32_75 : BitVec 32 := 0#32
  let v130 : BitVec 1 := Scalar.cmpi .ne v129 c0_i32_75
  v130

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_378 : BitVec 32 := 0#32
  ![v586.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_413 : BitVec 32 := 0#32
  ![v586.toNat, 0]
def k0_dev25 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev26 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev27 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond21 (d0 : Dev nD) : BitVec 1 :=
  let c3_i32_76 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v131 : BitVec 32 := Scalar.subi c3_i32_76 v8
  let c0_i32_77 : BitVec 32 := 0#32
  let v132 : BitVec 1 := Scalar.cmpi .sgt v131 c0_i32_77
  let v133 : BitVec 32 := Scalar.extui v132
  let c0_i32_78 : BitVec 32 := 0#32
  let v134 : BitVec 1 := Scalar.cmpi .ne v133 c0_i32_78
  v134

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_378 : BitVec 32 := 0#32
  ![v586.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_413 : BitVec 32 := 0#32
  ![v586.toNat, 0]
def k0_dev28 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev29 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev30 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_79 : BitVec 32 := 0#32
  let v135 : BitVec 1 := Scalar.cmpi .sgt v8 c0_i32_79
  let v136 : BitVec 32 := Scalar.extui v135
  let c0_i32_80 : BitVec 32 := 0#32
  let v137 : BitVec 1 := Scalar.cmpi .ne v136 c0_i32_80
  v137

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_378 : BitVec 32 := 0#32
  ![v586.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_413 : BitVec 32 := 0#32
  ![v586.toNat, 0]
def k0_dev31 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev32 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev33 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond25 (d0 : Dev nD) : BitVec 1 :=
  let c3_i32_81 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v138 : BitVec 32 := Scalar.subi c3_i32_81 v8
  let c0_i32_82 : BitVec 32 := 0#32
  let v139 : BitVec 1 := Scalar.cmpi .sgt v138 c0_i32_82
  let v140 : BitVec 32 := Scalar.extui v139
  let c0_i32_83 : BitVec 32 := 0#32
  let v141 : BitVec 1 := Scalar.cmpi .ne v140 c0_i32_83
  v141

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_378 : BitVec 32 := 0#32
  ![v586.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_413 : BitVec 32 := 0#32
  ![v586.toNat, 0]
def k0_dev34 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev35 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev36 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v142 : BitVec 1 := Scalar.cmpi .sgt v8 c1_i32_84
  let v143 : BitVec 32 := Scalar.extui v142
  let c0_i32_85 : BitVec 32 := 0#32
  let v144 : BitVec 1 := Scalar.cmpi .ne v143 c0_i32_85
  v144

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_378 : BitVec 32 := 0#32
  ![v586.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_413 : BitVec 32 := 0#32
  ![v586.toNat, 0]
def k0_dev37 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev38 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev39 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond29 (d0 : Dev nD) : BitVec 1 :=
  let c3_i32_86 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v145 : BitVec 32 := Scalar.subi c3_i32_86 v8
  let c1_i32_87 : BitVec 32 := 1#32
  let v146 : BitVec 1 := Scalar.cmpi .sgt v145 c1_i32_87
  let v147 : BitVec 32 := Scalar.extui v146
  let c0_i32_88 : BitVec 32 := 0#32
  let v148 : BitVec 1 := Scalar.cmpi .ne v147 c0_i32_88
  v148

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_378 : BitVec 32 := 0#32
  ![v586.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_413 : BitVec 32 := 0#32
  ![v586.toNat, 0]
def k0_dev40 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev41 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev42 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v149 : BitVec 1 := Scalar.cmpi .sgt v8 c1_i32_89
  let v150 : BitVec 32 := Scalar.extui v149
  let c0_i32_90 : BitVec 32 := 0#32
  let v151 : BitVec 1 := Scalar.cmpi .ne v150 c0_i32_90
  v151

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_378 : BitVec 32 := 0#32
  ![v586.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_413 : BitVec 32 := 0#32
  ![v586.toNat, 0]
def k0_dev43 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev44 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev45 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond33 (d0 : Dev nD) : BitVec 1 :=
  let c3_i32_91 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v152 : BitVec 32 := Scalar.subi c3_i32_91 v8
  let c1_i32_92 : BitVec 32 := 1#32
  let v153 : BitVec 1 := Scalar.cmpi .sgt v152 c1_i32_92
  let v154 : BitVec 32 := Scalar.extui v153
  let c0_i32_93 : BitVec 32 := 0#32
  let v155 : BitVec 1 := Scalar.cmpi .ne v154 c0_i32_93
  v155

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_378 : BitVec 32 := 0#32
  ![v586.toNat, 0]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_413 : BitVec 32 := 0#32
  ![v586.toNat, 0]
def k0_dev46 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev47 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev48 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v156 : BitVec 1 := Scalar.cmpi .sgt v8 c1_i32_94
  let v157 : BitVec 32 := Scalar.extui v156
  let c0_i32_95 : BitVec 32 := 0#32
  let v158 : BitVec 1 := Scalar.cmpi .ne v157 c0_i32_95
  v158

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_378 : BitVec 32 := 0#32
  ![v586.toNat, 0]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_413 : BitVec 32 := 0#32
  ![v586.toNat, 0]
def k0_dev49 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev50 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev51 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond37 (d0 : Dev nD) : BitVec 1 :=
  let c3_i32_96 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v159 : BitVec 32 := Scalar.subi c3_i32_96 v8
  let c1_i32_97 : BitVec 32 := 1#32
  let v160 : BitVec 1 := Scalar.cmpi .sgt v159 c1_i32_97
  let v161 : BitVec 32 := Scalar.extui v160
  let c0_i32_98 : BitVec 32 := 0#32
  let v162 : BitVec 1 := Scalar.cmpi .ne v161 c0_i32_98
  v162

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_378 : BitVec 32 := 0#32
  ![v586.toNat, 0]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_413 : BitVec 32 := 0#32
  ![v586.toNat, 0]
def k0_dev52 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev53 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev54 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v163 : BitVec 1 := Scalar.cmpi .sgt v8 c1_i32_99
  let v164 : BitVec 32 := Scalar.extui v163
  let c0_i32_100 : BitVec 32 := 0#32
  let v165 : BitVec 1 := Scalar.cmpi .ne v164 c0_i32_100
  v165

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_378 : BitVec 32 := 0#32
  ![v586.toNat, 0]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_413 : BitVec 32 := 0#32
  ![v586.toNat, 0]
def k0_dev55 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev56 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev57 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond41 (d0 : Dev nD) : BitVec 1 :=
  let c3_i32_101 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v166 : BitVec 32 := Scalar.subi c3_i32_101 v8
  let c1_i32_102 : BitVec 32 := 1#32
  let v167 : BitVec 1 := Scalar.cmpi .sgt v166 c1_i32_102
  let v168 : BitVec 32 := Scalar.extui v167
  let c0_i32_103 : BitVec 32 := 0#32
  let v169 : BitVec 1 := Scalar.cmpi .ne v168 c0_i32_103
  v169

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_378 : BitVec 32 := 0#32
  ![v586.toNat, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_413 : BitVec 32 := 0#32
  ![v586.toNat, 0]
def k0_dev58 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev59 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev60 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_104 : BitVec 32 := 2#32
  let v170 : BitVec 1 := Scalar.cmpi .sgt v8 c2_i32_104
  let v171 : BitVec 32 := Scalar.extui v170
  let c0_i32_105 : BitVec 32 := 0#32
  let v172 : BitVec 1 := Scalar.cmpi .ne v171 c0_i32_105
  v172

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_378 : BitVec 32 := 0#32
  ![v586.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_413 : BitVec 32 := 0#32
  ![v586.toNat, 0]
def k0_dev61 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev62 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev63 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond45 (d0 : Dev nD) : BitVec 1 :=
  let c3_i32_106 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v173 : BitVec 32 := Scalar.subi c3_i32_106 v8
  let c2_i32_107 : BitVec 32 := 2#32
  let v174 : BitVec 1 := Scalar.cmpi .sgt v173 c2_i32_107
  let v175 : BitVec 32 := Scalar.extui v174
  let c0_i32_108 : BitVec 32 := 0#32
  let v176 : BitVec 1 := Scalar.cmpi .ne v175 c0_i32_108
  v176

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_378 : BitVec 32 := 0#32
  ![v586.toNat, 0]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c0_i32_371 : BitVec 32 := 0#32
  let v586 : BitVec 32 := Scalar.addi v585 c0_i32_371
  let c0_i32_413 : BitVec 32 := 0#32
  ![v586.toNat, 0]
def k0_dev64 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev65 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev66 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_109 : BitVec 32 := 2#32
  let v177 : BitVec 1 := Scalar.cmpi .sgt v8 c2_i32_109
  let v178 : BitVec 32 := Scalar.extui v177
  let c0_i32_110 : BitVec 32 := 0#32
  let v179 : BitVec 1 := Scalar.cmpi .ne v178 c0_i32_110
  v179

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_378 : BitVec 32 := 0#32
  ![v586.toNat, 0]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_413 : BitVec 32 := 0#32
  ![v586.toNat, 0]
def k0_dev67 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev68 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev69 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond49 (d0 : Dev nD) : BitVec 1 :=
  let c3_i32_111 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v180 : BitVec 32 := Scalar.subi c3_i32_111 v8
  let c2_i32_112 : BitVec 32 := 2#32
  let v181 : BitVec 1 := Scalar.cmpi .sgt v180 c2_i32_112
  let v182 : BitVec 32 := Scalar.extui v181
  let c0_i32_113 : BitVec 32 := 0#32
  let v183 : BitVec 1 := Scalar.cmpi .ne v182 c0_i32_113
  v183

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_378 : BitVec 32 := 0#32
  ![v586.toNat, 0]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c512_i32_371 : BitVec 32 := 512#32
  let v586 : BitVec 32 := Scalar.addi v585 c512_i32_371
  let c0_i32_413 : BitVec 32 := 0#32
  ![v586.toNat, 0]
def k0_dev70 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev71 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev72 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_114 : BitVec 32 := 2#32
  let v184 : BitVec 1 := Scalar.cmpi .sgt v8 c2_i32_114
  let v185 : BitVec 32 := Scalar.extui v184
  let c0_i32_115 : BitVec 32 := 0#32
  let v186 : BitVec 1 := Scalar.cmpi .ne v185 c0_i32_115
  v186

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_378 : BitVec 32 := 0#32
  ![v586.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_413 : BitVec 32 := 0#32
  ![v586.toNat, 0]
def k0_dev73 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev74 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev75 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond53 (d0 : Dev nD) : BitVec 1 :=
  let c3_i32_116 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v187 : BitVec 32 := Scalar.subi c3_i32_116 v8
  let c2_i32_117 : BitVec 32 := 2#32
  let v188 : BitVec 1 := Scalar.cmpi .sgt v187 c2_i32_117
  let v189 : BitVec 32 := Scalar.extui v188
  let c0_i32_118 : BitVec 32 := 0#32
  let v190 : BitVec 1 := Scalar.cmpi .ne v189 c0_i32_118
  v190

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_378 : BitVec 32 := 0#32
  ![v586.toNat, 0]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1024_i32_371 : BitVec 32 := 1024#32
  let v586 : BitVec 32 := Scalar.addi v585 c1024_i32_371
  let c0_i32_413 : BitVec 32 := 0#32
  ![v586.toNat, 0]
def k0_dev76 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev77 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev78 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_119 : BitVec 32 := 2#32
  let v191 : BitVec 1 := Scalar.cmpi .sgt v8 c2_i32_119
  let v192 : BitVec 32 := Scalar.extui v191
  let c0_i32_120 : BitVec 32 := 0#32
  let v193 : BitVec 1 := Scalar.cmpi .ne v192 c0_i32_120
  v193

def k0_off62 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_378 : BitVec 32 := 0#32
  ![v586.toNat, 0]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v597 : BitVec 32 := Scalar.extui v13
  let c0_i32_380 : BitVec 32 := 0#32
  let v598 : BitVec 1 := Scalar.cmpi .ne v597 c0_i32_380
  v598

def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_413 : BitVec 32 := 0#32
  ![v586.toNat, 0]
def k0_dev79 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c1_i32_412 : BitVec 32 := 1#32
  let v627 : BitVec 32 := Scalar.muli v9 c1_i32_412
  let v628 : BitVec 32 := Scalar.addi v626 v627
  v628.toNat
def k0_dev80 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev81 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond57 (d0 : Dev nD) : BitVec 1 :=
  let c3_i32_121 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v194 : BitVec 32 := Scalar.subi c3_i32_121 v8
  let c2_i32_122 : BitVec 32 := 2#32
  let v195 : BitVec 1 := Scalar.cmpi .sgt v194 c2_i32_122
  let v196 : BitVec 32 := Scalar.extui v195
  let c0_i32_123 : BitVec 32 := 0#32
  let v197 : BitVec 1 := Scalar.cmpi .ne v196 c0_i32_123
  v197

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_378 : BitVec 32 := 0#32
  ![v586.toNat, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v14 : BitVec 1 := Scalar.cmpi .sgt v8 c0_i32
  let v597 : BitVec 32 := Scalar.extui v14
  let c0_i32_380 : BitVec 32 := 0#32
  let v598 : BitVec 1 := Scalar.cmpi .ne v597 c0_i32_380
  v598

def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let c0_i32_7 : BitVec 32 := 0#32
  let v15 : BitVec 1 := Scalar.cmpi .eq c2_i32_6 c0_i32_7
  let c1_i32_8 : BitVec 32 := 1#32
  let v16 : BitVec 32 := Scalar.select v15 c1_i32_8 c2_i32_6
  let v17 : BitVec 32 := Scalar.remsi v5 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : BitVec 32 := Scalar.muli c2_i32_12 v24
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.addi v25 v2
  let c2048_i32_370 : BitVec 32 := 2048#32
  let v584 : BitVec 32 := Scalar.muli v26 c2048_i32_370
  let v585 : BitVec 32 := Scalar.addi v583 v584
  let c1536_i32_371 : BitVec 32 := 1536#32
  let v586 : BitVec 32 := Scalar.addi v585 c1536_i32_371
  let c0_i32_413 : BitVec 32 := 0#32
  ![v586.toNat, 0]
def k0_dev82 (d0 : Dev nD) : Nat :=
  let c0_i32_410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_409 : BitVec 32 := 16#32
  let v623 : BitVec 32 := Scalar.muli v2 c16_i32_409
  let v624 : BitVec 32 := Scalar.addi c0_i32_410 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_411 : BitVec 32 := 4#32
  let v625 : BitVec 32 := Scalar.muli v5 c4_i32_411
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_412 : BitVec 32 := 1#32
  let v627 : BitVec 32 := Scalar.muli v10 c1_i32_412
  let v628 : BitVec 32 := Scalar.addi v626 v627
  v628.toNat
def k0_dev83 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v599 : BitVec 32 := Scalar.muli v11 c16_i32_387
  let v600 : BitVec 32 := Scalar.addi c0_i32_388 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v601 : BitVec 32 := Scalar.muli v5 c4_i32_389
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v603 : BitVec 32 := Scalar.muli v8 c1_i32_390
  let v604 : BitVec 32 := Scalar.addi v602 v603
  v604.toNat
def k0_dev84 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v611 : BitVec 32 := Scalar.muli v2 c16_i32_399
  let v612 : BitVec 32 := Scalar.addi c0_i32_400 v611
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_401 : BitVec 32 := 4#32
  let v613 : BitVec 32 := Scalar.muli v12 c4_i32_401
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v615 : BitVec 32 := Scalar.muli v8 c1_i32_402
  let v616 : BitVec 32 := Scalar.addi v614 v615
  v616.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_124 : BitVec 32 := 0#32
  let v198 : BitVec 1 := Scalar.cmpi .sgt v8 c0_i32_124
  let v199 : BitVec 32 := Scalar.extui v198
  let c0_i32_125 : BitVec 32 := 0#32
  let v200 : BitVec 1 := Scalar.cmpi .ne v199 c0_i32_125
  v200

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_dev85 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_126 : BitVec 32 := 0#32
  let v201 : BitVec 1 := Scalar.cmpi .sgt v8 c0_i32_126
  let v202 : BitVec 32 := Scalar.extui v201
  let c0_i32_127 : BitVec 32 := 0#32
  let v203 : BitVec 1 := Scalar.cmpi .ne v202 c0_i32_127
  v203

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_cond61 (d0 : Dev nD) : BitVec 1 :=
  let c3_i32_128 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v204 : BitVec 32 := Scalar.subi c3_i32_128 v8
  let c0_i32_129 : BitVec 32 := 0#32
  let v205 : BitVec 1 := Scalar.cmpi .sgt v204 c0_i32_129
  let v206 : BitVec 32 := Scalar.extui v205
  let c0_i32_130 : BitVec 32 := 0#32
  let v207 : BitVec 1 := Scalar.cmpi .ne v206 c0_i32_130
  v207

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_dev86 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond62 (d0 : Dev nD) : BitVec 1 :=
  let c3_i32_131 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v208 : BitVec 32 := Scalar.subi c3_i32_131 v8
  let c0_i32_132 : BitVec 32 := 0#32
  let v209 : BitVec 1 := Scalar.cmpi .sgt v208 c0_i32_132
  let v210 : BitVec 32 := Scalar.extui v209
  let c0_i32_133 : BitVec 32 := 0#32
  let v211 : BitVec 1 := Scalar.cmpi .ne v210 c0_i32_133
  v211

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_134 : BitVec 32 := 0#32
  let v212 : BitVec 1 := Scalar.cmpi .sgt v8 c0_i32_134
  let v213 : BitVec 32 := Scalar.extui v212
  let c0_i32_135 : BitVec 32 := 0#32
  let v214 : BitVec 1 := Scalar.cmpi .ne v213 c0_i32_135
  v214

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_136 : BitVec 32 := 0#32
  let v215 : BitVec 1 := Scalar.cmpi .sgt v8 c0_i32_136
  let v216 : BitVec 32 := Scalar.extui v215
  let c0_i32_137 : BitVec 32 := 0#32
  let v217 : BitVec 1 := Scalar.cmpi .ne v216 c0_i32_137
  v217

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_dev87 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond65 (d0 : Dev nD) : BitVec 1 :=
  let c3_i32_138 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v218 : BitVec 32 := Scalar.subi c3_i32_138 v8
  let c0_i32_139 : BitVec 32 := 0#32
  let v219 : BitVec 1 := Scalar.cmpi .sgt v218 c0_i32_139
  let v220 : BitVec 32 := Scalar.extui v219
  let c0_i32_140 : BitVec 32 := 0#32
  let v221 : BitVec 1 := Scalar.cmpi .ne v220 c0_i32_140
  v221

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_cond66 (d0 : Dev nD) : BitVec 1 :=
  let c3_i32_141 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v222 : BitVec 32 := Scalar.subi c3_i32_141 v8
  let c0_i32_142 : BitVec 32 := 0#32
  let v223 : BitVec 1 := Scalar.cmpi .sgt v222 c0_i32_142
  let v224 : BitVec 32 := Scalar.extui v223
  let c0_i32_143 : BitVec 32 := 0#32
  let v225 : BitVec 1 := Scalar.cmpi .ne v224 c0_i32_143
  v225

def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_dev88 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_144 : BitVec 32 := 0#32
  let v226 : BitVec 1 := Scalar.cmpi .sgt v8 c0_i32_144
  let v227 : BitVec 32 := Scalar.extui v226
  let c0_i32_145 : BitVec 32 := 0#32
  let v228 : BitVec 1 := Scalar.cmpi .ne v227 c0_i32_145
  v228

def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_dev89 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_146 : BitVec 32 := 0#32
  let v229 : BitVec 1 := Scalar.cmpi .sgt v8 c0_i32_146
  let v230 : BitVec 32 := Scalar.extui v229
  let c0_i32_147 : BitVec 32 := 0#32
  let v231 : BitVec 1 := Scalar.cmpi .ne v230 c0_i32_147
  v231

def k0_off75 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_cond69 (d0 : Dev nD) : BitVec 1 :=
  let c3_i32_148 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v232 : BitVec 32 := Scalar.subi c3_i32_148 v8
  let c0_i32_149 : BitVec 32 := 0#32
  let v233 : BitVec 1 := Scalar.cmpi .sgt v232 c0_i32_149
  let v234 : BitVec 32 := Scalar.extui v233
  let c0_i32_150 : BitVec 32 := 0#32
  let v235 : BitVec 1 := Scalar.cmpi .ne v234 c0_i32_150
  v235

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_dev90 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond70 (d0 : Dev nD) : BitVec 1 :=
  let c3_i32_151 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v236 : BitVec 32 := Scalar.subi c3_i32_151 v8
  let c0_i32_152 : BitVec 32 := 0#32
  let v237 : BitVec 1 := Scalar.cmpi .sgt v236 c0_i32_152
  let v238 : BitVec 32 := Scalar.extui v237
  let c0_i32_153 : BitVec 32 := 0#32
  let v239 : BitVec 1 := Scalar.cmpi .ne v238 c0_i32_153
  v239

def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_154 : BitVec 32 := 0#32
  let v240 : BitVec 1 := Scalar.cmpi .sgt v8 c0_i32_154
  let v241 : BitVec 32 := Scalar.extui v240
  let c0_i32_155 : BitVec 32 := 0#32
  let v242 : BitVec 1 := Scalar.cmpi .ne v241 c0_i32_155
  v242

def k0_off78 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_156 : BitVec 32 := 0#32
  let v243 : BitVec 1 := Scalar.cmpi .sgt v8 c0_i32_156
  let v244 : BitVec 32 := Scalar.extui v243
  let c0_i32_157 : BitVec 32 := 0#32
  let v245 : BitVec 1 := Scalar.cmpi .ne v244 c0_i32_157
  v245

def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_dev91 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond73 (d0 : Dev nD) : BitVec 1 :=
  let c3_i32_158 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v246 : BitVec 32 := Scalar.subi c3_i32_158 v8
  let c0_i32_159 : BitVec 32 := 0#32
  let v247 : BitVec 1 := Scalar.cmpi .sgt v246 c0_i32_159
  let v248 : BitVec 32 := Scalar.extui v247
  let c0_i32_160 : BitVec 32 := 0#32
  let v249 : BitVec 1 := Scalar.cmpi .ne v248 c0_i32_160
  v249

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_cond74 (d0 : Dev nD) : BitVec 1 :=
  let c3_i32_161 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v250 : BitVec 32 := Scalar.subi c3_i32_161 v8
  let c0_i32_162 : BitVec 32 := 0#32
  let v251 : BitVec 1 := Scalar.cmpi .sgt v250 c0_i32_162
  let v252 : BitVec 32 := Scalar.extui v251
  let c0_i32_163 : BitVec 32 := 0#32
  let v253 : BitVec 1 := Scalar.cmpi .ne v252 c0_i32_163
  v253

def k0_off81 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_dev92 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v254 : BitVec 1 := Scalar.cmpi .sgt v8 c1_i32_164
  let v255 : BitVec 32 := Scalar.extui v254
  let c0_i32_165 : BitVec 32 := 0#32
  let v256 : BitVec 1 := Scalar.cmpi .ne v255 c0_i32_165
  v256

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_dev93 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v257 : BitVec 1 := Scalar.cmpi .sgt v8 c1_i32_166
  let v258 : BitVec 32 := Scalar.extui v257
  let c0_i32_167 : BitVec 32 := 0#32
  let v259 : BitVec 1 := Scalar.cmpi .ne v258 c0_i32_167
  v259

def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_cond77 (d0 : Dev nD) : BitVec 1 :=
  let c3_i32_168 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v260 : BitVec 32 := Scalar.subi c3_i32_168 v8
  let c1_i32_169 : BitVec 32 := 1#32
  let v261 : BitVec 1 := Scalar.cmpi .sgt v260 c1_i32_169
  let v262 : BitVec 32 := Scalar.extui v261
  let c0_i32_170 : BitVec 32 := 0#32
  let v263 : BitVec 1 := Scalar.cmpi .ne v262 c0_i32_170
  v263

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_dev94 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond78 (d0 : Dev nD) : BitVec 1 :=
  let c3_i32_171 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v264 : BitVec 32 := Scalar.subi c3_i32_171 v8
  let c1_i32_172 : BitVec 32 := 1#32
  let v265 : BitVec 1 := Scalar.cmpi .sgt v264 c1_i32_172
  let v266 : BitVec 32 := Scalar.extui v265
  let c0_i32_173 : BitVec 32 := 0#32
  let v267 : BitVec 1 := Scalar.cmpi .ne v266 c0_i32_173
  v267

def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v268 : BitVec 1 := Scalar.cmpi .sgt v8 c1_i32_174
  let v269 : BitVec 32 := Scalar.extui v268
  let c0_i32_175 : BitVec 32 := 0#32
  let v270 : BitVec 1 := Scalar.cmpi .ne v269 c0_i32_175
  v270

def k0_off86 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v271 : BitVec 1 := Scalar.cmpi .sgt v8 c1_i32_176
  let v272 : BitVec 32 := Scalar.extui v271
  let c0_i32_177 : BitVec 32 := 0#32
  let v273 : BitVec 1 := Scalar.cmpi .ne v272 c0_i32_177
  v273

def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_dev95 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond81 (d0 : Dev nD) : BitVec 1 :=
  let c3_i32_178 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v274 : BitVec 32 := Scalar.subi c3_i32_178 v8
  let c1_i32_179 : BitVec 32 := 1#32
  let v275 : BitVec 1 := Scalar.cmpi .sgt v274 c1_i32_179
  let v276 : BitVec 32 := Scalar.extui v275
  let c0_i32_180 : BitVec 32 := 0#32
  let v277 : BitVec 1 := Scalar.cmpi .ne v276 c0_i32_180
  v277

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_cond82 (d0 : Dev nD) : BitVec 1 :=
  let c3_i32_181 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v278 : BitVec 32 := Scalar.subi c3_i32_181 v8
  let c1_i32_182 : BitVec 32 := 1#32
  let v279 : BitVec 1 := Scalar.cmpi .sgt v278 c1_i32_182
  let v280 : BitVec 32 := Scalar.extui v279
  let c0_i32_183 : BitVec 32 := 0#32
  let v281 : BitVec 1 := Scalar.cmpi .ne v280 c0_i32_183
  v281

def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_dev96 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v282 : BitVec 1 := Scalar.cmpi .sgt v8 c1_i32_184
  let v283 : BitVec 32 := Scalar.extui v282
  let c0_i32_185 : BitVec 32 := 0#32
  let v284 : BitVec 1 := Scalar.cmpi .ne v283 c0_i32_185
  v284

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_dev97 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v285 : BitVec 1 := Scalar.cmpi .sgt v8 c1_i32_186
  let v286 : BitVec 32 := Scalar.extui v285
  let c0_i32_187 : BitVec 32 := 0#32
  let v287 : BitVec 1 := Scalar.cmpi .ne v286 c0_i32_187
  v287

def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_cond85 (d0 : Dev nD) : BitVec 1 :=
  let c3_i32_188 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v288 : BitVec 32 := Scalar.subi c3_i32_188 v8
  let c1_i32_189 : BitVec 32 := 1#32
  let v289 : BitVec 1 := Scalar.cmpi .sgt v288 c1_i32_189
  let v290 : BitVec 32 := Scalar.extui v289
  let c0_i32_190 : BitVec 32 := 0#32
  let v291 : BitVec 1 := Scalar.cmpi .ne v290 c0_i32_190
  v291

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_dev98 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond86 (d0 : Dev nD) : BitVec 1 :=
  let c3_i32_191 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v292 : BitVec 32 := Scalar.subi c3_i32_191 v8
  let c1_i32_192 : BitVec 32 := 1#32
  let v293 : BitVec 1 := Scalar.cmpi .sgt v292 c1_i32_192
  let v294 : BitVec 32 := Scalar.extui v293
  let c0_i32_193 : BitVec 32 := 0#32
  let v295 : BitVec 1 := Scalar.cmpi .ne v294 c0_i32_193
  v295

def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v296 : BitVec 1 := Scalar.cmpi .sgt v8 c1_i32_194
  let v297 : BitVec 32 := Scalar.extui v296
  let c0_i32_195 : BitVec 32 := 0#32
  let v298 : BitVec 1 := Scalar.cmpi .ne v297 c0_i32_195
  v298

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v299 : BitVec 1 := Scalar.cmpi .sgt v8 c1_i32_196
  let v300 : BitVec 32 := Scalar.extui v299
  let c0_i32_197 : BitVec 32 := 0#32
  let v301 : BitVec 1 := Scalar.cmpi .ne v300 c0_i32_197
  v301

def k0_off95 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_dev99 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond89 (d0 : Dev nD) : BitVec 1 :=
  let c3_i32_198 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v302 : BitVec 32 := Scalar.subi c3_i32_198 v8
  let c1_i32_199 : BitVec 32 := 1#32
  let v303 : BitVec 1 := Scalar.cmpi .sgt v302 c1_i32_199
  let v304 : BitVec 32 := Scalar.extui v303
  let c0_i32_200 : BitVec 32 := 0#32
  let v305 : BitVec 1 := Scalar.cmpi .ne v304 c0_i32_200
  v305

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_cond90 (d0 : Dev nD) : BitVec 1 :=
  let c3_i32_201 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v306 : BitVec 32 := Scalar.subi c3_i32_201 v8
  let c1_i32_202 : BitVec 32 := 1#32
  let v307 : BitVec 1 := Scalar.cmpi .sgt v306 c1_i32_202
  let v308 : BitVec 32 := Scalar.extui v307
  let c0_i32_203 : BitVec 32 := 0#32
  let v309 : BitVec 1 := Scalar.cmpi .ne v308 c0_i32_203
  v309

def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_dev100 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_204 : BitVec 32 := 2#32
  let v310 : BitVec 1 := Scalar.cmpi .sgt v8 c2_i32_204
  let v311 : BitVec 32 := Scalar.extui v310
  let c0_i32_205 : BitVec 32 := 0#32
  let v312 : BitVec 1 := Scalar.cmpi .ne v311 c0_i32_205
  v312

def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_dev101 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_206 : BitVec 32 := 2#32
  let v313 : BitVec 1 := Scalar.cmpi .sgt v8 c2_i32_206
  let v314 : BitVec 32 := Scalar.extui v313
  let c0_i32_207 : BitVec 32 := 0#32
  let v315 : BitVec 1 := Scalar.cmpi .ne v314 c0_i32_207
  v315

def k0_off99 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_cond93 (d0 : Dev nD) : BitVec 1 :=
  let c3_i32_208 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v316 : BitVec 32 := Scalar.subi c3_i32_208 v8
  let c2_i32_209 : BitVec 32 := 2#32
  let v317 : BitVec 1 := Scalar.cmpi .sgt v316 c2_i32_209
  let v318 : BitVec 32 := Scalar.extui v317
  let c0_i32_210 : BitVec 32 := 0#32
  let v319 : BitVec 1 := Scalar.cmpi .ne v318 c0_i32_210
  v319

def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_dev102 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond94 (d0 : Dev nD) : BitVec 1 :=
  let c3_i32_211 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v320 : BitVec 32 := Scalar.subi c3_i32_211 v8
  let c2_i32_212 : BitVec 32 := 2#32
  let v321 : BitVec 1 := Scalar.cmpi .sgt v320 c2_i32_212
  let v322 : BitVec 32 := Scalar.extui v321
  let c0_i32_213 : BitVec 32 := 0#32
  let v323 : BitVec 1 := Scalar.cmpi .ne v322 c0_i32_213
  v323

def k0_off101 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c0_i32_371 : BitVec 32 := 0#32
  let v586 : BitVec 32 := Scalar.addi v585 c0_i32_371
  let c0_i32_379 : BitVec 32 := 0#32
  ![v586.toNat, 0]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_214 : BitVec 32 := 2#32
  let v324 : BitVec 1 := Scalar.cmpi .sgt v8 c2_i32_214
  let v325 : BitVec 32 := Scalar.extui v324
  let c0_i32_215 : BitVec 32 := 0#32
  let v326 : BitVec 1 := Scalar.cmpi .ne v325 c0_i32_215
  v326

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_216 : BitVec 32 := 2#32
  let v327 : BitVec 1 := Scalar.cmpi .sgt v8 c2_i32_216
  let v328 : BitVec 32 := Scalar.extui v327
  let c0_i32_217 : BitVec 32 := 0#32
  let v329 : BitVec 1 := Scalar.cmpi .ne v328 c0_i32_217
  v329

def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_dev103 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond97 (d0 : Dev nD) : BitVec 1 :=
  let c3_i32_218 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v330 : BitVec 32 := Scalar.subi c3_i32_218 v8
  let c2_i32_219 : BitVec 32 := 2#32
  let v331 : BitVec 1 := Scalar.cmpi .sgt v330 c2_i32_219
  let v332 : BitVec 32 := Scalar.extui v331
  let c0_i32_220 : BitVec 32 := 0#32
  let v333 : BitVec 1 := Scalar.cmpi .ne v332 c0_i32_220
  v333

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_cond98 (d0 : Dev nD) : BitVec 1 :=
  let c3_i32_221 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v334 : BitVec 32 := Scalar.subi c3_i32_221 v8
  let c2_i32_222 : BitVec 32 := 2#32
  let v335 : BitVec 1 := Scalar.cmpi .sgt v334 c2_i32_222
  let v336 : BitVec 32 := Scalar.extui v335
  let c0_i32_223 : BitVec 32 := 0#32
  let v337 : BitVec 1 := Scalar.cmpi .ne v336 c0_i32_223
  v337

def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c512_i32_371 : BitVec 32 := 512#32
  let v586 : BitVec 32 := Scalar.addi v585 c512_i32_371
  let c0_i32_379 : BitVec 32 := 0#32
  ![v586.toNat, 0]
def k0_dev104 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_224 : BitVec 32 := 2#32
  let v338 : BitVec 1 := Scalar.cmpi .sgt v8 c2_i32_224
  let v339 : BitVec 32 := Scalar.extui v338
  let c0_i32_225 : BitVec 32 := 0#32
  let v340 : BitVec 1 := Scalar.cmpi .ne v339 c0_i32_225
  v340

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_dev105 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_226 : BitVec 32 := 2#32
  let v341 : BitVec 1 := Scalar.cmpi .sgt v8 c2_i32_226
  let v342 : BitVec 32 := Scalar.extui v341
  let c0_i32_227 : BitVec 32 := 0#32
  let v343 : BitVec 1 := Scalar.cmpi .ne v342 c0_i32_227
  v343

def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_cond101 (d0 : Dev nD) : BitVec 1 :=
  let c3_i32_228 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v344 : BitVec 32 := Scalar.subi c3_i32_228 v8
  let c2_i32_229 : BitVec 32 := 2#32
  let v345 : BitVec 1 := Scalar.cmpi .sgt v344 c2_i32_229
  let v346 : BitVec 32 := Scalar.extui v345
  let c0_i32_230 : BitVec 32 := 0#32
  let v347 : BitVec 1 := Scalar.cmpi .ne v346 c0_i32_230
  v347

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_dev106 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v597 : BitVec 32 := Scalar.muli v2 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_389 : BitVec 32 := 4#32
  let v599 : BitVec 32 := Scalar.muli v12 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond102 (d0 : Dev nD) : BitVec 1 :=
  let c3_i32_231 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v348 : BitVec 32 := Scalar.subi c3_i32_231 v8
  let c2_i32_232 : BitVec 32 := 2#32
  let v349 : BitVec 1 := Scalar.cmpi .sgt v348 c2_i32_232
  let v350 : BitVec 32 := Scalar.extui v349
  let c0_i32_233 : BitVec 32 := 0#32
  let v351 : BitVec 1 := Scalar.cmpi .ne v350 c0_i32_233
  v351

def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1024_i32_371 : BitVec 32 := 1024#32
  let v586 : BitVec 32 := Scalar.addi v585 c1024_i32_371
  let c0_i32_379 : BitVec 32 := 0#32
  ![v586.toNat, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_234 : BitVec 32 := 2#32
  let v352 : BitVec 1 := Scalar.cmpi .sgt v8 c2_i32_234
  let v353 : BitVec 32 := Scalar.extui v352
  let c0_i32_235 : BitVec 32 := 0#32
  let v354 : BitVec 1 := Scalar.cmpi .ne v353 c0_i32_235
  v354

def k0_off110 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v355 : BitVec 1 := Scalar.cmpi .sgt v8 c2_i32_236
  let v356 : BitVec 32 := Scalar.extui v355
  let c0_i32_237 : BitVec 32 := 0#32
  let v357 : BitVec 1 := Scalar.cmpi .ne v356 c0_i32_237
  v357

def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_dev107 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond105 (d0 : Dev nD) : BitVec 1 :=
  let c3_i32_238 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v358 : BitVec 32 := Scalar.subi c3_i32_238 v8
  let c2_i32_239 : BitVec 32 := 2#32
  let v359 : BitVec 1 := Scalar.cmpi .sgt v358 c2_i32_239
  let v360 : BitVec 32 := Scalar.extui v359
  let c0_i32_240 : BitVec 32 := 0#32
  let v361 : BitVec 1 := Scalar.cmpi .ne v360 c0_i32_240
  v361

def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi v5 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.muli c2_i32_19 v36
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_20 v2
  let v39 : BitVec 32 := Scalar.addi v37 v38
  let c2048_i32_370 : BitVec 32 := 2048#32
  let v584 : BitVec 32 := Scalar.muli v39 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_cond106 (d0 : Dev nD) : BitVec 1 :=
  let c3_i32_241 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v362 : BitVec 32 := Scalar.subi c3_i32_241 v8
  let c2_i32_242 : BitVec 32 := 2#32
  let v363 : BitVec 1 := Scalar.cmpi .sgt v362 c2_i32_242
  let v364 : BitVec 32 := Scalar.extui v363
  let c0_i32_243 : BitVec 32 := 0#32
  let v365 : BitVec 1 := Scalar.cmpi .ne v364 c0_i32_243
  v365

def k0_off113 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_28 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v40 : BitVec 32 := Scalar.xori v5 c1_i32_21
  let c2_i32_22 : BitVec 32 := 2#32
  let c0_i32_23 : BitVec 32 := 0#32
  let v41 : BitVec 1 := Scalar.cmpi .eq c2_i32_22 c0_i32_23
  let c1_i32_24 : BitVec 32 := 1#32
  let v42 : BitVec 32 := Scalar.select v41 c1_i32_24 c2_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v51 : BitVec 32 := Scalar.muli c2_i32_28 v50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v52 : BitVec 32 := Scalar.addi v51 v2
  let c2048_i32_370 : BitVec 32 := 2048#32
  let v584 : BitVec 32 := Scalar.muli v52 c2048_i32_370
  let v585 : BitVec 32 := Scalar.addi v583 v584
  let c1536_i32_371 : BitVec 32 := 1536#32
  let v586 : BitVec 32 := Scalar.addi v585 c1536_i32_371
  let c0_i32_379 : BitVec 32 := 0#32
  ![v586.toNat, 0]
def k0_dev108 (d0 : Dev nD) : Nat :=
  let c0_i32_388 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_387 : BitVec 32 := 16#32
  let v597 : BitVec 32 := Scalar.muli v11 c16_i32_387
  let v598 : BitVec 32 := Scalar.addi c0_i32_388 v597
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v599 : BitVec 32 := Scalar.muli v5 c4_i32_389
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v601 : BitVec 32 := Scalar.muli v8 c1_i32_390
  let v602 : BitVec 32 := Scalar.addi v600 v601
  v602.toNat
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_245 : BitVec 32 := 0#32
  let v367 : BitVec 1 := Scalar.cmpi .sgt v8 c0_i32_245
  let v368 : BitVec 32 := Scalar.extui v367
  let c0_i32_246 : BitVec 32 := 0#32
  let v369 : BitVec 1 := Scalar.cmpi .ne v368 c0_i32_246
  v369

def k0_off114 (d0 : Dev nD) (c512_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c512_i32_371
  let c0_i32_379 : BitVec 32 := 0#32
  ![v586.toNat, 0]
def k0_cond108 (d0 : Dev nD) : BitVec 1 :=
  let c3_i32_247 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v370 : BitVec 32 := Scalar.subi c3_i32_247 v8
  let c0_i32_248 : BitVec 32 := 0#32
  let v371 : BitVec 1 := Scalar.cmpi .sgt v370 c0_i32_248
  let v372 : BitVec 32 := Scalar.extui v371
  let c0_i32_249 : BitVec 32 := 0#32
  let v373 : BitVec 1 := Scalar.cmpi .ne v372 c0_i32_249
  v373

def k0_off115 (d0 : Dev nD) (c512_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c512_i32_371
  let c0_i32_379 : BitVec 32 := 0#32
  ![v586.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_250 : BitVec 32 := 0#32
  let v374 : BitVec 1 := Scalar.cmpi .sgt v8 c0_i32_250
  let v375 : BitVec 32 := Scalar.extui v374
  let c0_i32_251 : BitVec 32 := 0#32
  let v376 : BitVec 1 := Scalar.cmpi .ne v375 c0_i32_251
  v376

def k0_off116 (d0 : Dev nD) (c1536_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c0_i32_368 : BitVec 32 := 0#32
  let v582 : BitVec 32 := Scalar.subi v581 c0_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c1536_i32_371
  let c0_i32_379 : BitVec 32 := 0#32
  ![v586.toNat, 0]
def k0_cond110 (d0 : Dev nD) : BitVec 1 :=
  let c3_i32_252 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v377 : BitVec 32 := Scalar.subi c3_i32_252 v8
  let c0_i32_253 : BitVec 32 := 0#32
  let v378 : BitVec 1 := Scalar.cmpi .sgt v377 c0_i32_253
  let v379 : BitVec 32 := Scalar.extui v378
  let c0_i32_254 : BitVec 32 := 0#32
  let v380 : BitVec 1 := Scalar.cmpi .ne v379 c0_i32_254
  v380

def k0_off117 (d0 : Dev nD) (c1536_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c0_i32_368 : BitVec 32 := 0#32
  let v582 : BitVec 32 := Scalar.addi v581 c0_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c1536_i32_371
  let c0_i32_379 : BitVec 32 := 0#32
  ![v586.toNat, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v381 : BitVec 1 := Scalar.cmpi .sgt v8 c1_i32_255
  let v382 : BitVec 32 := Scalar.extui v381
  let c0_i32_256 : BitVec 32 := 0#32
  let v383 : BitVec 1 := Scalar.cmpi .ne v382 c0_i32_256
  v383

def k0_off118 (d0 : Dev nD) (c512_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c512_i32_371
  let c0_i32_379 : BitVec 32 := 0#32
  ![v586.toNat, 0]
def k0_cond112 (d0 : Dev nD) : BitVec 1 :=
  let c3_i32_257 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v384 : BitVec 32 := Scalar.subi c3_i32_257 v8
  let c1_i32_258 : BitVec 32 := 1#32
  let v385 : BitVec 1 := Scalar.cmpi .sgt v384 c1_i32_258
  let v386 : BitVec 32 := Scalar.extui v385
  let c0_i32_259 : BitVec 32 := 0#32
  let v387 : BitVec 1 := Scalar.cmpi .ne v386 c0_i32_259
  v387

def k0_off119 (d0 : Dev nD) (c512_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c512_i32_371
  let c0_i32_379 : BitVec 32 := 0#32
  ![v586.toNat, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v388 : BitVec 1 := Scalar.cmpi .sgt v8 c1_i32_260
  let v389 : BitVec 32 := Scalar.extui v388
  let c0_i32_261 : BitVec 32 := 0#32
  let v390 : BitVec 1 := Scalar.cmpi .ne v389 c0_i32_261
  v390

def k0_off120 (d0 : Dev nD) (c1536_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c1_i32_368 : BitVec 32 := 1#32
  let v582 : BitVec 32 := Scalar.subi v581 c1_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c1536_i32_371
  let c0_i32_379 : BitVec 32 := 0#32
  ![v586.toNat, 0]
def k0_cond114 (d0 : Dev nD) : BitVec 1 :=
  let c3_i32_262 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v391 : BitVec 32 := Scalar.subi c3_i32_262 v8
  let c1_i32_263 : BitVec 32 := 1#32
  let v392 : BitVec 1 := Scalar.cmpi .sgt v391 c1_i32_263
  let v393 : BitVec 32 := Scalar.extui v392
  let c0_i32_264 : BitVec 32 := 0#32
  let v394 : BitVec 1 := Scalar.cmpi .ne v393 c0_i32_264
  v394

def k0_off121 (d0 : Dev nD) (c1536_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c1_i32_368 : BitVec 32 := 1#32
  let v582 : BitVec 32 := Scalar.addi v581 c1_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c1536_i32_371
  let c0_i32_379 : BitVec 32 := 0#32
  ![v586.toNat, 0]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v395 : BitVec 1 := Scalar.cmpi .sgt v8 c2_i32_265
  let v396 : BitVec 32 := Scalar.extui v395
  let c0_i32_266 : BitVec 32 := 0#32
  let v397 : BitVec 1 := Scalar.cmpi .ne v396 c0_i32_266
  v397

def k0_off122 (d0 : Dev nD) (c512_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c512_i32_371
  let c0_i32_379 : BitVec 32 := 0#32
  ![v586.toNat, 0]
def k0_cond116 (d0 : Dev nD) : BitVec 1 :=
  let c3_i32_267 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v398 : BitVec 32 := Scalar.subi c3_i32_267 v8
  let c2_i32_268 : BitVec 32 := 2#32
  let v399 : BitVec 1 := Scalar.cmpi .sgt v398 c2_i32_268
  let v400 : BitVec 32 := Scalar.extui v399
  let c0_i32_269 : BitVec 32 := 0#32
  let v401 : BitVec 1 := Scalar.cmpi .ne v400 c0_i32_269
  v401

def k0_off123 (d0 : Dev nD) (c512_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c512_i32_371
  let c0_i32_379 : BitVec 32 := 0#32
  ![v586.toNat, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_270 : BitVec 32 := 2#32
  let v402 : BitVec 1 := Scalar.cmpi .sgt v8 c2_i32_270
  let v403 : BitVec 32 := Scalar.extui v402
  let c0_i32_271 : BitVec 32 := 0#32
  let v404 : BitVec 1 := Scalar.cmpi .ne v403 c0_i32_271
  v404

def k0_off124 (d0 : Dev nD) (c1536_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.subi v8 c1_i32_367
  let c2_i32_368 : BitVec 32 := 2#32
  let v582 : BitVec 32 := Scalar.subi v581 c2_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c1536_i32_371
  let c0_i32_379 : BitVec 32 := 0#32
  ![v586.toNat, 0]
def k0_cond118 (d0 : Dev nD) : BitVec 1 :=
  let c3_i32_272 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v405 : BitVec 32 := Scalar.subi c3_i32_272 v8
  let c2_i32_273 : BitVec 32 := 2#32
  let v406 : BitVec 1 := Scalar.cmpi .sgt v405 c2_i32_273
  let v407 : BitVec 32 := Scalar.extui v406
  let c0_i32_274 : BitVec 32 := 0#32
  let v408 : BitVec 1 := Scalar.cmpi .ne v407 c0_i32_274
  v408

def k0_off125 (d0 : Dev nD) (c1536_i32_371 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v581 : BitVec 32 := Scalar.addi v8 c1_i32_367
  let c2_i32_368 : BitVec 32 := 2#32
  let v582 : BitVec 32 := Scalar.addi v581 c2_i32_368
  let c8192_i32_369 : BitVec 32 := 8192#32
  let v583 : BitVec 32 := Scalar.muli v582 c8192_i32_369
  let c2_i32_36 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v53 : BitVec 32 := Scalar.xori v5 c1_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let v64 : BitVec 32 := Scalar.muli c2_i32_36 v63
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v65 : BitVec 32 := Scalar.subi c1_i32_37 v2
  let v66 : BitVec 32 := Scalar.addi v64 v65
  let c2048_i32_370 : BitVec 32 := 2048#32
  let v584 : BitVec 32 := Scalar.muli v66 c2048_i32_370
  let v585 : BitVec 32 := Scalar.addi v583 v584
  let v586 : BitVec 32 := Scalar.addi v585 c1536_i32_371
  let c0_i32_379 : BitVec 32 := 0#32
  ![v586.toNat, 0]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The geometry of the all-gather: the neighbours on the 2×4×4 mesh, the ninety-six transfers a device may make or
receive, where each lands, the semaphores it completes on, and the order a device sends, receives and waits in.
Nothing here speaks of a program's state: these are numbers, and each fact is decided over the thirty-two devices.
-/
module

public import proofs.«01_k».proof.Proof.Gen.KernelIdeal
public import proofs.«01_k».proof.Proof.Gen.KernelIdeal.Launch

@[expose] public section

noncomputable section

namespace Cert.Gather

open Cert.KernelIdeal Cert.KernelIdeal.Gen
open Idealize.ShloMosaic Idealize.ShloMosaic.TcCoe

/-! ## Devices -/

/-- A device's coordinates along z, y and x. -/
abbrev zc (c : Dev nD) : ℕ := c.val % 4
/-- A device's coordinate along y. -/
abbrev yc (c : Dev nD) : ℕ := c.val / 4 % 4
/-- A device's coordinate along x. -/
abbrev xc (c : Dev nD) : ℕ := c.val / 16

/-- The neighbours: the partner along x (0), the buddy along y (1), the next device along z (2), the one before (3).
    At the ends of a z-line the last two name some other device, and no transfer uses them there. -/
def nb (δ : Fin 4) (c : Dev nD) : Dev nD :=
  match δ with
  | 0 => ⟨(c.val + 16) % 32, Nat.mod_lt _ (by decide)⟩
  | 1 => ⟨(if c.val / 4 % 2 = 0 then c.val + 4 else c.val + 28) % 32, Nat.mod_lt _ (by decide)⟩
  | 2 => ⟨(c.val + 1) % 32, Nat.mod_lt _ (by decide)⟩
  | 3 => ⟨(c.val + 31) % 32, Nat.mod_lt _ (by decide)⟩

/-- The way back along a direction. -/
def opp (δ : Fin 4) : Fin 4 := match δ with | 0 => 0 | 1 => 1 | 2 => 3 | 3 => 2

/-- The way back from the way back is the way. -/
theorem opp_opp (δ : Fin 4) : opp (opp δ) = δ := by revert δ; decide
/-- Going along a direction and back leads home. -/
theorem nb_opp (δ : Fin 4) (c : Dev nD) : nb (opp δ) (nb δ c) = c := by revert δ c; decide +kernel
/-- Going back along a direction and then along it leads home. -/
theorem nb_opp' (δ : Fin 4) (c : Dev nD) : nb δ (nb (opp δ) c) = c := by revert δ c; decide +kernel

/-! ## Transfers -/

/-- A transfer: its kind (0 along the z-line, 1 to the x-partner, 2 to the y-buddy, 3 the relayed quarter), the
    direction its chunk travels the z-line (0 upwards, 1 downwards), the number of the hop and of the segment. -/
abbrev T : Type := Fin 4 × Fin 2 × Fin 3 × Fin 4
instance decT : DecidableEq T := inferInstance

/-- The direction in which the device that receives a transfer finds the device that sends it. -/
def dirOf (t : T) : Fin 4 :=
  match t.1 with
  | 0 => if t.2.1 = 0 then 3 else 2
  | 1 => 0
  | 2 => 1
  | 3 => if t.2.2.2.val % 2 = 0 then 1 else 0

/-- The device that sends a transfer to `r`, and the device `c` sends it to. -/
def src (t : T) (r : Dev nD) : Dev nD := nb (dirOf t) r
/-- The device `c` sends a transfer to. -/
def tgt (t : T) (c : Dev nD) : Dev nD := nb (opp (dirOf t)) c

/-- The sender's target is the receiver. -/
theorem tgt_src (t : T) (r : Dev nD) : tgt t (src t r) = r := nb_opp _ _
/-- The target's sender is the sender. -/
theorem src_tgt (t : T) (c : Dev nD) : src t (tgt t c) = c := nb_opp' _ _

/-- The devices permuted by a transfer's direction, sender to receiver. -/
def tgtEquiv (t : T) : Dev nD ≃ Dev nD := ⟨tgt t, src t, src_tgt t, tgt_src t⟩
/-- The devices permuted by a direction. -/
def nbEquiv (δ : Fin 4) : Dev nD ≃ Dev nD := ⟨nb δ, nb (opp δ), nb_opp δ, nb_opp' δ⟩

/-- Whether `r` receives the transfer: a chunk that far away exists on that side of its z-line. -/
def ract (t : T) (r : Dev nD) : Prop := if t.2.1 = 0 then t.2.2.1.val < zc r else t.2.2.1.val + zc r < 3
instance (t : T) (r : Dev nD) : Decidable (ract t r) := by unfold ract; infer_instance
/-- Whether `c` sends it. -/
def sact (t : T) (c : Dev nD) : Prop := ract t (tgt t c)
instance (t : T) (c : Dev nD) : Decidable (sact t c) := by unfold sact; infer_instance

/-- The sender sends a transfer exactly if the receiver receives it. -/
theorem sact_src (t : T) (r : Dev nD) : sact t (src t r) ↔ ract t r := by unfold sact; rw [tgt_src]

/-! ## Where a transfer lands -/

/-- The chunk, the quarter of it and the 512-row tile of the result a transfer fills at its receiver. -/
def chunk (t : T) (r : Dev nD) : ℕ := if t.2.1 = 0 then (zc r + 3 - t.2.2.1.val) % 4 else (zc r + 1 + t.2.2.1.val) % 4
/-- The quarter of the chunk that a transfer fills a part of. -/
def quarter (t : T) (r : Dev nD) : ℕ :=
  match t.1 with
  | 0 => 2 * (yc r % 2) + xc r
  | 1 => 2 * (yc r % 2) + (1 - xc r)
  | 2 => 2 * ((yc r + 1) % 2) + xc r
  | 3 => 2 * ((yc r + 1) % 2) + (1 - xc r)
/-- The 512-row tile of the result that a transfer fills at `r`. -/
def tile (t : T) (r : Dev nD) : Fin 64 := ⟨(chunk t r * 16 + quarter t r * 4 + t.2.2.2.val) % 64, Nat.mod_lt _ (by decide)⟩
/-- The tile of its own block a device sends first. -/
def xtile (t : T) (c : Dev nD) : Fin 16 := ⟨((2 * (yc c % 2) + xc c) * 4 + t.2.2.2.val) % 16, Nat.mod_lt _ (by decide)⟩

/-- The transfer that fills a tile at a device. -/
def untile (r : Dev nD) (k : Fin 64) : T :=
  let ch := k.val / 16
  let q := k.val / 4 % 4
  (⟨(2 * ((q / 2 + yc r) % 2) + (q % 2 + xc r) % 2) % 4, Nat.mod_lt _ (by decide)⟩,
   if ch < zc r then 0 else 1,
   ⟨(if ch < zc r then zc r - 1 - ch else ch - 1 - zc r) % 3, Nat.mod_lt _ (by decide)⟩,
   ⟨k.val % 4, Nat.mod_lt _ (by decide)⟩)

/-- A received transfer is the one that fills its tile, and the tile is outside the device's own chunk. -/
theorem untile_tile : ∀ (r : Dev nD) (t : T), ract t r → untile r (tile t r) = t ∧ (tile t r).val / 16 ≠ zc r := by
  decide +kernel
/-- Every tile outside the device's own chunk is filled by a transfer that the device receives. -/
theorem tile_untile : ∀ (r : Dev nD) (k : Fin 64), k.val / 16 ≠ zc r → ract (untile r k) r ∧ tile (untile r k) r = k := by
  decide +kernel

/-- The device whose block supplies quarter `q` of chunk `ch` of the result at `r`, along this kernel's route. -/
def orig (r : Dev nD) (ch q : ℕ) : Dev nD :=
  if ch = zc r then r else ⟨(16 * (q % 2) + 4 * (2 * (yc r / 2) + q / 2) + ch) % 32, Nat.mod_lt _ (by decide)⟩

/-- The block that supplies chunk `ch` comes from a device at place `ch` of a z-line. -/
theorem orig_z (r : Dev nD) : ∀ (ch q : Fin 4), zc (orig r ch.val q.val) = ch.val := by
  revert r; decide +kernel

/-- The first transfers of a chunk send a device's own block; every other passes on what the sender holds. -/
def fromX (t : T) : Prop := t.1 = 0 ∧ t.2.2.1 = 0
instance (t : T) : Decidable (fromX t) := by unfold fromX; infer_instance

/-- A transfer of the sender's own block fills a tile that comes from the sender, from the place it is read at. -/
theorem orig_fromX : ∀ (c : Dev nD) (t : T), sact t c → fromX t →
    orig (tgt t c) ((tile t (tgt t c)).val / 16) ((tile t (tgt t c)).val / 4 % 4) = c
      ∧ (tile t (tgt t c)).val % 16 = (xtile t c).val := by decide +kernel
/-- A transfer that passes a tile on fills one of the same origin as the sender's, outside the sender's own chunk. -/
theorem orig_pass : ∀ (c : Dev nD) (t : T), sact t c → ¬ fromX t →
    orig (tgt t c) ((tile t (tgt t c)).val / 16) ((tile t (tgt t c)).val / 4 % 4)
      = orig c ((tile t (tgt t c)).val / 16) ((tile t (tgt t c)).val / 4 % 4)
    ∧ (tile t (tgt t c)).val / 16 ≠ zc c := by decide +kernel

/-- The transfer that brings a device the tile another passes on. -/
def par (t : T) : T :=
  match t.1 with
  | 0 => (0, t.2.1, ⟨(t.2.2.1.val + 2) % 3, Nat.mod_lt _ (by decide)⟩, t.2.2.2)
  | 1 => (0, t.2)
  | 2 => (0, t.2)
  | 3 => (if t.2.2.2.val % 2 = 0 then 1 else 2, t.2)
/-- The sender of a tile that is passed on receives it, at the same place of the result. -/
theorem par_ok : ∀ (c : Dev nD) (t : T), sact t c → ¬ fromX t → ract (par t) c ∧ tile (par t) c = tile t (tgt t c) := by
  decide +kernel

/-! ## Semaphores -/

/-- The semaphore a transfer completes on at its sender, and at its receiver. -/
def sq (t : T) : DmaSem sig :=
  ⟨(match t.1 with
    | 0 => 1 + 12 * t.2.1.val + 4 * t.2.2.1.val + t.2.2.2.val
    | 1 => 49 + 12 * t.2.1.val + 4 * t.2.2.1.val + t.2.2.2.val
    | 2 => 97 + 12 * t.2.1.val + 4 * t.2.2.1.val + t.2.2.2.val
    | 3 => if t.2.2.2.val % 2 = 1 then 145 + 6 * t.2.1.val + 2 * t.2.2.1.val + t.2.2.2.val / 2
           else 169 + 6 * t.2.1.val + 2 * t.2.2.1.val + t.2.2.2.val / 2) % 193, Nat.mod_lt _ (by decide)⟩
/-- The semaphore a transfer completes on at its receiver. -/
def rq (t : T) : DmaSem sig :=
  ⟨(match t.1 with
    | 0 => 25 + 12 * t.2.1.val + 4 * t.2.2.1.val + t.2.2.2.val
    | 1 => 73 + 12 * t.2.1.val + 4 * t.2.2.1.val + t.2.2.2.val
    | 2 => 121 + 12 * t.2.1.val + 4 * t.2.2.1.val + t.2.2.2.val
    | 3 => if t.2.2.2.val % 2 = 1 then 157 + 6 * t.2.1.val + 2 * t.2.2.1.val + t.2.2.2.val / 2
           else 181 + 6 * t.2.1.val + 2 * t.2.2.1.val + t.2.2.2.val / 2) % 193, Nat.mod_lt _ (by decide)⟩
/-- The semaphore of the copy of a device's own block. -/
def cq : DmaSem sig := ⟨0, by decide⟩

/-- What a DMA semaphore counts: a send (`inl`), a receive (`inr inl`), the copy (`inr inr`). -/
def useOf (q : DmaSem sig) : T ⊕ T ⊕ Unit :=
  let n := q.val
  let arr (k : Fin 4) (b : ℕ) : T := (k, ⟨(n - b) / 12 % 2, Nat.mod_lt _ (by decide)⟩, ⟨(n - b) / 4 % 3, Nat.mod_lt _ (by decide)⟩,
    ⟨(n - b) % 4, Nat.mod_lt _ (by decide)⟩)
  let rel (o b : ℕ) : T := (3, ⟨(n - b) / 6 % 2, Nat.mod_lt _ (by decide)⟩, ⟨(n - b) / 2 % 3, Nat.mod_lt _ (by decide)⟩,
    ⟨(2 * ((n - b) % 2) + o) % 4, Nat.mod_lt _ (by decide)⟩)
  if n = 0 then .inr (.inr ()) else if n < 25 then .inl (arr 0 1) else if n < 49 then .inr (.inl (arr 0 25))
  else if n < 73 then .inl (arr 1 49) else if n < 97 then .inr (.inl (arr 1 73))
  else if n < 121 then .inl (arr 2 97) else if n < 145 then .inr (.inl (arr 2 121))
  else if n < 157 then .inl (rel 1 145) else if n < 169 then .inr (.inl (rel 1 157))
  else if n < 181 then .inl (rel 0 169) else .inr (.inl (rel 0 181))

/-- A send semaphore counts its transfer's departure. -/
theorem useOf_sq : ∀ t : T, useOf (sq t) = .inl t := by decide +kernel
/-- A receive semaphore counts its transfer's arrival. -/
theorem useOf_rq : ∀ t : T, useOf (rq t) = .inr (.inl t) := by decide +kernel
/-- The copy's semaphore counts the copy. -/
theorem useOf_cq : useOf cq = .inr (.inr ()) := by decide +kernel
/-- Every DMA semaphore is the one of its use. -/
theorem of_useOf : ∀ q : DmaSem sig, (match useOf q with | .inl t => sq t | .inr (.inl t) => rq t | .inr (.inr _) => cq) = q := by
  decide +kernel

/-! ## The order of a device's program -/

/-- The number of a segment's hop in the program's loops. -/
abbrev eno (t : T) : ℕ := (4 * t.2.2.1.val + t.2.2.2.val) * 2 + t.2.1.val

/-- When a transfer is sent, -/
def spos (t : T) : ℕ :=
  match t.1 with
  | 0 => if t.2.2.1 = 0 then 2 * t.2.2.2.val + t.2.1.val
         else 8 + 3 * ((4 * (t.2.2.1.val - 1) + t.2.2.2.val) * 2 + t.2.1.val)
  | 1 => 9 + 3 * eno t
  | 2 => 10 + 3 * eno t
  | 3 => 80 + eno t
/-- when its arrival is waited for, -/
def rpos (t : T) : ℕ :=
  match t.1 with
  | 0 => eno t
  | 1 => 24 + 2 * eno t
  | 2 => 25 + 2 * eno t
  | 3 => 72 + ((2 * t.2.2.1.val + t.2.2.2.val / 2) * 2 + t.2.1.val) * 2 + (1 - t.2.2.2.val % 2)
/-- and when its departure is. -/
def wpos (t : T) : ℕ :=
  match t.1 with
  | 0 => if t.2.2.1 = 0 then 2 * t.2.2.2.val + t.2.1.val
         else 8 + 4 * ((4 * (t.2.2.1.val - 1) + t.2.2.2.val) * 2 + t.2.1.val)
  | 1 => 9 + 4 * eno t
  | 2 => 10 + 4 * eno t
  | 3 => 11 + 4 * eno t

/-- The end of each order. -/
abbrev nS : ℕ := 104
/-- The end of the order of receiving. -/
abbrev nR : ℕ := 96
/-- The end of the order of waiting for departures. -/
abbrev nW : ℕ := 104

/-- No two transfers are sent at one position. -/
theorem spos_inj : Function.Injective spos := by
  have h : ∀ t t' : T, spos t = spos t' → t = t' := by decide +kernel
  exact fun t t' e => h t t' e
/-- No two transfers are waited for at one position. -/
theorem rpos_inj : Function.Injective rpos := by
  have h : ∀ t t' : T, rpos t = rpos t' → t = t' := by decide +kernel
  exact fun t t' e => h t t' e
/-- No two departures are waited for at one position. -/
theorem wpos_inj : Function.Injective wpos := by
  have h : ∀ t t' : T, wpos t = wpos t' → t = t' := by decide +kernel
  exact fun t t' e => h t t' e
/-- Every transfer is sent before the end of the order, -/
theorem spos_lt : ∀ t : T, spos t < nS := by decide +kernel
/-- every arrival is waited for before the end of its order, -/
theorem rpos_lt : ∀ t : T, rpos t < nR := by decide +kernel
/-- and so is every departure. -/
theorem wpos_lt : ∀ t : T, wpos t < nW := by decide +kernel

/-- The transfer of a direction and step number, -/
def ofE (k : Fin 4) (i e : ℕ) : T := (k, ⟨e % 2, Nat.mod_lt _ (by decide)⟩, ⟨(e / 8 + i) % 3, Nat.mod_lt _ (by decide)⟩, ⟨e / 2 % 4, Nat.mod_lt _ (by decide)⟩)
/-- the one received at a position, -/
def rat (n : ℕ) : T :=
  if n < 24 then ofE 0 0 n
  else if n < 72 then (if n % 2 = 0 then ofE 1 0 ((n - 24) / 2) else ofE 2 0 ((n - 24) / 2))
  else ofE 3 0 ((n - 72) / 8 * 8 + (n - 72) / 4 % 2 * 4 + (1 - (n - 72) % 2) * 2 + (n - 72) / 2 % 2)
/-- the one sent at a position, -/
def sat (n : ℕ) : T :=
  if n < 8 then ofE 0 0 n
  else if n < 80 then (if (n - 8) % 3 = 0 then ofE 0 1 ((n - 8) / 3) else if (n - 8) % 3 = 1 then ofE 1 0 ((n - 8) / 3) else ofE 2 0 ((n - 8) / 3))
  else ofE 3 0 (n - 80)
/-- and the one whose departure is awaited at a position. -/
def wat (n : ℕ) : T :=
  if n < 8 then ofE 0 0 n
  else if (n - 8) % 4 = 0 then ofE 0 1 ((n - 8) / 4) else if (n - 8) % 4 = 1 then ofE 1 0 ((n - 8) / 4)
  else if (n - 8) % 4 = 2 then ofE 2 0 ((n - 8) / 4) else ofE 3 0 ((n - 8) / 4)
/-- The transfer received at a transfer's position is that transfer; -/
theorem rat_rpos : ∀ t, rat (rpos t) = t := by decide +kernel
/-- so is the one sent at its position, -/
theorem sat_spos : ∀ t, sat (spos t) = t := by decide +kernel
/-- and the one whose departure is waited for at its position. -/
theorem wat_wpos : ∀ t, wat (wpos t) = t := by decide +kernel

end Cert.Gather
end
-- ==== Proof.Vals.lean ====
/-
What the all-gather's buffers hold: the tiles of the result and of a device's own block as memrefs, the contents the
result ends with, and that each transfer and the copy deliver them.
-/
module

public import proofs.«01_k».proof.Proof.Mesh

@[expose] public section

noncomputable section

namespace Cert.Gather

open Cert.KernelIdeal Cert.KernelIdeal.Gen
open Idealize.ShloMosaic Idealize.ShloMosaic.TcCoe

variable {F : FTy → Type} [FloatOps F]

/-! ## The memrefs -/

/-- A device's block of the operand and its result, whole. -/
abbrev xM : Memref sig .tc .hbm S8192x1024 .bf16 := Memref.whole main_arg0
/-- A device's result, whole. -/
abbrev oM : Memref sig .tc .hbm S32768x1024 .bf16 := Memref.whole main_v1

/-- Every tile lies inside the result. -/
theorem outT_inb (k : Fin 64) : ∀ a, (![512 * k.val, 0] : Fin 2 → ℕ) a + S512x1024.size a ≤ S32768x1024.size a := by
  revert k; decide
/-- Every tile of a block lies inside it. -/
theorem xT_inb (k : Fin 16) : ∀ a, (![512 * k.val, 0] : Fin 2 → ℕ) a + S512x1024.size a ≤ S8192x1024.size a := by
  revert k; decide
/-- A device's own rows lie inside the result. -/
theorem outC_inb (c : Dev nD) : ∀ a, (![8192 * zc c, 0] : Fin 2 → ℕ) a + S8192x1024.size a ≤ S32768x1024.size a := by
  revert c; decide

/-- Tile `k` of the result, tile `k` of the block, and the result's rows for a device's own block. -/
abbrev outT (k : Fin 64) : Memref sig .tc .hbm S512x1024 .bf16 :=
  oM.slice (Rect.unit (s := S32768x1024) ![512 * k.val, 0] S512x1024.size (outT_inb k)) (fun _ => rfl)
/-- Tile `k` of a device's block. -/
abbrev xT (k : Fin 16) : Memref sig .tc .hbm S512x1024 .bf16 :=
  xM.slice (Rect.unit (s := S8192x1024) ![512 * k.val, 0] S512x1024.size (xT_inb k)) (fun _ => rfl)
/-- The rows of the result for a device's own block. -/
abbrev outC (c : Dev nD) : Memref sig .tc .hbm S8192x1024 .bf16 :=
  oM.slice (Rect.unit (s := S32768x1024) ![8192 * zc c, 0] S8192x1024.size (outC_inb c)) (fun _ => rfl)

/-- An index of the result is in tile `k` exactly if its row is. -/
theorem mem_outT (k : Fin 64) (i : S32768x1024.Idx) : i ∈ (outT k).view.set ↔ (i 0).val / 512 = k.val := by
  rw [show (outT k).view.set = (Rect.unit (s := S32768x1024) ![512 * k.val, 0] S512x1024.size (outT_inb k)).set from
    View.set_slice_whole main_v1 _, Rect.mem_set_unit, Fin.forall_fin_two]
  have h1 : (i 1).val < 1024 := (i 1).isLt
  simp only [Matrix.cons_val_zero, Matrix.cons_val_one]
  show (512 * k.val ≤ (i 0).val ∧ (i 0).val < 512 * k.val + 512) ∧ (0 ≤ (i 1).val ∧ (i 1).val < 0 + 1024) ↔ _
  omega
/-- An index of the result is among a device's own rows exactly if its chunk is the device's. -/
theorem mem_outC (c : Dev nD) (i : S32768x1024.Idx) : i ∈ (outC c).view.set ↔ (i 0).val / 8192 = zc c := by
  rw [show (outC c).view.set = (Rect.unit (s := S32768x1024) ![8192 * zc c, 0] S8192x1024.size (outC_inb c)).set from
    View.set_slice_whole main_v1 _, Rect.mem_set_unit, Fin.forall_fin_two]
  have h1 : (i 1).val < 1024 := (i 1).isLt
  simp only [Matrix.cons_val_zero, Matrix.cons_val_one]
  show (8192 * zc c ≤ (i 0).val ∧ (i 0).val < 8192 * zc c + 8192) ∧ (0 ≤ (i 1).val ∧ (i 1).val < 0 + 1024) ↔ _
  omega

/-- The result is a device's own rows and the tiles of the transfers it receives. -/
theorem cover (c : Dev nD) :
    (outC c).view.set ∪ (Finset.univ.filter fun t : T => ract t c).biUnion (fun t => (outT (tile t c)).view.set) = Finset.univ := by
  ext i
  simp only [Finset.mem_union, Finset.mem_biUnion, Finset.mem_filter, Finset.mem_univ, true_and, iff_true]
  rw [mem_outC]
  by_cases h : (i 0).val / 8192 = zc c
  · exact .inl h
  · have h0 : (i 0).val < 32768 := (i 0).isLt
    have hk : (i 0).val / 512 < 64 := by omega
    have := tile_untile c ⟨(i 0).val / 512, hk⟩ (by simp only []; omega)
    exact .inr ⟨_, this.1, by rw [mem_outT, this.2]⟩
/-- A device's own rows meet no tile that it receives. -/
theorem disj_own (c : Dev nD) :
    Disjoint (outC c).view.set ((Finset.univ.filter fun t : T => ract t c).biUnion (fun t => (outT (tile t c)).view.set)) := by
  rw [Finset.disjoint_left]
  intro i hi hj
  obtain ⟨t, ht, hit⟩ := Finset.mem_biUnion.mp hj
  have := (untile_tile c t (Finset.mem_filter.mp ht).2).2
  rw [mem_outC] at hi; rw [mem_outT] at hit
  omega
/-- The tiles of two transfers that a device receives are disjoint. -/
theorem disj_tiles (c : Dev nD) : ∀ t ∈ (Finset.univ.filter fun t : T => ract t c), ∀ t' ∈ (Finset.univ.filter fun t : T => ract t c),
    t ≠ t' → Disjoint (outT (tile t c)).view.set (outT (tile t' c)).view.set := by
  intro t ht t' ht' hne
  rw [Finset.disjoint_left]
  intro i hi hj
  rw [mem_outT] at hi hj
  refine hne ?_
  rw [← (untile_tile c t (Finset.mem_filter.mp ht).2).1, ← (untile_tile c t' (Finset.mem_filter.mp ht').2).1,
    Fin.ext (hi.symm.trans hj)]

/-! ## The contents -/

/-- The place within its block of an index of the result. -/
def inBlock (i : S32768x1024.Idx) : S8192x1024.Idx :=
  Shape.pair (d := ![8192, 1024]) ⟨(i 0).val % 8192, Nat.mod_lt _ (by decide)⟩ ⟨(i 1).val, (i 1).isLt⟩

variable (m : (ℓ : Loc nD τ sig) → Buf (Elt F) ℓ)

/-- A device's block of the operand at launch. -/
abbrev xval (c : Dev nD) : S8192x1024.Idx → Elt F .bf16 := m ((c : Thread nD τ).loc main_arg0)

/-- What the result holds at the end on device `c`: on each chunk and quarter the block of the device it came from. -/
def G (c : Dev nD) : S32768x1024.Idx → Elt F .bf16 :=
  fun i => xval m (orig c ((i 0).val / 8192) ((i 0).val / 2048 % 4)) (inBlock i)

omit [FloatOps F] in
/-- Writing a tile's worth of the result leaves at an index of the tile what was written for its place. -/
theorem write_outT (k : Fin 64) (fd : S32768x1024.Idx → Elt F .bf16) (w : S512x1024.Idx → Elt F .bf16)
    (g : S32768x1024.Idx → Elt F .bf16) (h : ∀ x : S512x1024.Idx, w x = g ((outT k).view.emb x)) :
    ∀ i ∈ (outT k).view.set, (outT k).view.write (Elt F) fd w Finset.univ i = g i := by
  intro i hi
  obtain ⟨x, -, rfl⟩ := Finset.mem_map.mp hi
  rw [View.write_emb_of_mem _ _ (Finset.mem_univ x)]
  exact h x

omit [FloatOps F] in
/-- A transfer that passes on what its sender holds delivers the receiver's contents. -/
theorem landed_pass (t : T) (c : Dev nD) (hs : sact t c) (hx : ¬ fromX t) (fd : S32768x1024.Idx → Elt F .bf16) :
    ∀ i ∈ (outT (tile t (tgt t c))).view.set, (outT (tile t (tgt t c))).view.write (Elt F) fd
      ((outT (tile t (tgt t c))).view.read (Elt F) (G m c)) Finset.univ i = G m (tgt t c) i := by
  refine write_outT _ fd _ _ fun x => ?_
  show G m c ((outT (tile t (tgt t c))).view.emb x) = _
  have hk := (mem_outT (tile t (tgt t c)) ((outT (tile t (tgt t c))).view.emb x)).mp (View.emb_mem_set _ x)
  have ho := (orig_pass c t hs hx).1
  generalize (outT (tile t (tgt t c))).view.emb x = i at hk ⊢
  have e1 : (i 0).val / 8192 = (tile t (tgt t c)).val / 16 := by rw [← hk]; omega
  have e2 : (i 0).val / 2048 % 4 = (tile t (tgt t c)).val / 4 % 4 := by rw [← hk]; omega
  unfold G
  rw [e1, e2, ho]

omit [FloatOps F] in
/-- A first transfer delivers its sender's block. -/
theorem landed_fromX (t : T) (c : Dev nD) (hs : sact t c) (hx : fromX t) (fd : S32768x1024.Idx → Elt F .bf16) :
    ∀ i ∈ (outT (tile t (tgt t c))).view.set, (outT (tile t (tgt t c))).view.write (Elt F) fd
      ((xT (xtile t c)).view.read (Elt F) (xval m c)) Finset.univ i = G m (tgt t c) i := by
  refine write_outT _ fd _ _ fun x => ?_
  show xval m c ((xT (xtile t c)).view.emb x) = _
  have hk := (mem_outT (tile t (tgt t c)) ((outT (tile t (tgt t c))).view.emb x)).mp (View.emb_mem_set _ x)
  obtain ⟨ho, hm⟩ := orig_fromX c t hs hx
  have v0 : ((outT (tile t (tgt t c))).view.emb x 0).val = 512 * (tile t (tgt t c)).val + 1 * (x 0).val := rfl
  have v1 : ((outT (tile t (tgt t c))).view.emb x 1).val = 0 + 1 * (x 1).val := rfl
  have w0 : ((xT (xtile t c)).view.emb x 0).val = 512 * (xtile t c).val + 1 * (x 0).val := rfl
  have w1 : ((xT (xtile t c)).view.emb x 1).val = 0 + 1 * (x 1).val := rfl
  generalize (outT (tile t (tgt t c))).view.emb x = i at hk v0 v1 ⊢
  generalize (xT (xtile t c)).view.emb x = j at w0 w1 ⊢
  have e1 : (i 0).val / 8192 = (tile t (tgt t c)).val / 16 := by rw [← hk]; omega
  have e2 : (i 0).val / 2048 % 4 = (tile t (tgt t c)).val / 4 % 4 := by rw [← hk]; omega
  unfold G
  rw [e1, e2, ho]
  congr 1
  have hx0 : (x 0).val < 512 := (x 0).isLt
  funext a
  refine Fin.ext ?_
  revert a
  refine Fin.forall_fin_two.mpr ⟨?_, ?_⟩
  · show (j 0).val = (i 0).val % 8192
    omega
  · show (j 1).val = (i 1).val
    omega

omit [FloatOps F] in
/-- The copy delivers a device's own block. -/
theorem landed_copy (c : Dev nD) (fd : S32768x1024.Idx → Elt F .bf16) :
    ∀ i ∈ (outC c).view.set, (outC c).view.write (Elt F) fd (xM.view.read (Elt F) (xval m c)) Finset.univ i = G m c i := by
  intro i hi
  obtain ⟨x, -, rfl⟩ := Finset.mem_map.mp hi
  rw [View.write_emb_of_mem _ _ (Finset.mem_univ x)]
  show xval m c x = _
  have hk := (mem_outC c ((outC c).view.emb x)).mp (View.emb_mem_set _ x)
  have v0 : ((outC c).view.emb x 0).val = 8192 * zc c + 1 * (x 0).val := rfl
  have v1 : ((outC c).view.emb x 1).val = 0 + 1 * (x 1).val := rfl
  generalize (outC c).view.emb x = i at hk v0 v1 ⊢
  have hx0 : (x 0).val < 8192 := (x 0).isLt
  unfold G orig
  rw [if_pos hk]
  congr 1
  funext a
  refine Fin.ext ?_
  revert a
  refine Fin.forall_fin_two.mpr ⟨?_, ?_⟩
  · show (x 0).val = (i 0).val % 8192
    omega
  · show (x 1).val = (i 1).val
    omega

end Cert.Gather
end
-- ==== Proof.Sched.lean ====
/-
The protocol of the all-gather's launch. Every device has a barrier semaphore and 193 DMA semaphores; each is a cell
with one round. A barrier cell's duties are the signals of its neighbours, and a signal hands over the landing tiles
of the transfers that will be sent to the signalling device. A DMA cell's duty is the one transfer, or the copy, that
completes on it: a receive hands over the filled tile, the copy the device's own rows, a send nothing.
-/
module

public import proofs.«01_k».proof.Proof.Vals
public import Idealize.ShloMosaic.Lib.Pipeline.Launch
public import Idealize.ShloMosaic.Lib.Pipeline.Kit
public import Idealize.ShloMosaic.Lib.Tactic

@[expose] public section

set_option synthInstance.maxSize 4096

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties: a barrier signal along a direction, the send and the receive of a transfer, the copy. -/
abbrev D : Type := Fin 4 ⊕ (T ⊕ T ⊕ Unit)
instance decD : DecidableEq D := inferInstance
/-- The ghost state: the launch's own, and that of the rounds of this protocol. -/
abbrev UU : Type := UR sig nD τ × URounds (GSem nD τ sig) D
instance uraU : URA UU := inferInstance

local notation "𝕄" => MT nD τ sig Unit (Elt F) ℕ UU ℕ

/-- The launch's ghost state as a part of the whole, -/
abbrev EP : Emb (UR sig nD τ) (MT nD τ sig Unit (Elt F) ℕ UU ℕ) := embL
/-- and that of the rounds. -/
abbrev ER : Emb (URounds (GSem nD τ sig) D) (MT nD τ sig Unit (Elt F) ℕ UU ℕ) := embR

/-! ## Cells -/

/-- The barrier semaphore. -/
abbrev barS : Sem sig := (SemArray.scalar (sig.barrier 0 rfl) : Sems sig S_).sem

/-- The semaphore of a use, and of a duty. -/
def qOf : T ⊕ T ⊕ Unit → DmaSem sig
  | .inl t => sq t
  | .inr (.inl t) => rq t
  | .inr (.inr _) => cq
/-- The use of a use's semaphore is that use, -/
theorem useOf_qOf : ∀ u, useOf (qOf u) = u
  | .inl t => useOf_sq t
  | .inr (.inl t) => useOf_rq t
  | .inr (.inr _) => useOf_cq
/-- and the semaphore of a semaphore's use is that semaphore. -/
theorem qOf_useOf (q : DmaSem sig) : qOf (useOf q) = q := by
  have h := of_useOf q
  revert h
  generalize useOf q = u
  rcases u with t | t | u <;> exact id
/-- The semaphore of a duty. -/
def loc : D → SemLoc sig
  | .inl _ => .reg barS
  | .inr u => .dma (qOf u)

/-- A device's barrier cell, -/
abbrev barCell (c : Dev nD) : GSem nD τ sig := ((c : Thread nD τ), .reg barS)
/-- the cell of one of its DMA semaphores, -/
abbrev dCell (q : DmaSem sig) (c : Dev nD) : GSem nD τ sig := ((c : Thread nD τ), .dma q)
/-- and the cell of a duty. -/
abbrev dutyCell (d : D) (c : Dev nD) : GSem nD τ sig := ((c : Thread nD τ), loc d)

/-- The cells of a device: the barrier's (none) and each DMA semaphore's. -/
abbrev SI : Type := Option (DmaSem sig)
/-- The semaphore of a cell. -/
def semOf : SI → SemLoc sig
  | none => .reg barS
  | some q => .dma q
/-- A cell of a device, among the cells of all devices. -/
abbrev kcell (ck : Dev nD × SI) : GSem nD τ sig := ((ck.1 : Thread nD τ), semOf ck.2)

/-! ## Amounts and payloads -/

/-- What a transfer of a tile and the copy of a block add to a semaphore. -/
def N : ℕ := (outT 0).view.dmaCredit
/-- What the copy of a block adds to a semaphore. -/
def NC : ℕ := (outC 0).view.dmaCredit
/-- A transfer adds something; -/
theorem N_pos : 0 < N := View.dmaCredit_pos _ (by decide)
/-- so does the copy. -/
theorem NC_pos : 0 < NC := View.dmaCredit_pos _ (by decide)
/-- Every tile adds the same. -/
theorem N_outT (k : Fin 64) : (outT k).view.dmaCredit = N := rfl
/-- Every device's own rows add the same. -/
theorem NC_outC (c : Dev nD) : (outC c).view.dmaCredit = NC := rfl

/-- What a duty adds to its cell. -/
def amt : D → ℕ
  | .inl _ => 1
  | .inr (.inr (.inr _)) => NC
  | .inr _ => N
/-- Every duty adds something. -/
theorem amt_pos : ∀ d, 0 < amt d
  | .inl _ => Nat.one_pos
  | .inr (.inr (.inr _)) => NC_pos
  | .inr (.inr (.inl _)) => N_pos
  | .inr (.inl _) => N_pos

/-- Whether a device makes the signal along a direction. -/
def bact (δ : Fin 4) (c : Dev nD) : Prop := match δ with | 0 => True | 1 => True | 2 => zc c < 3 | 3 => 0 < zc c
instance (δ : Fin 4) (c : Dev nD) : Decidable (bact δ c) := by unfold bact; split <;> infer_instance
/-- Whether a duty of a device's cell is in use. -/
def act : D → Dev nD → Prop
  | .inl δ, c => bact δ (nb (opp δ) c)
  | .inr (.inl t), c => sact t c
  | .inr (.inr (.inl t)), c => ract t c
  | .inr (.inr (.inr _)), _ => True
instance : (d : D) → (c : Dev nD) → Decidable (act d c)
  | .inl δ, c => inferInstanceAs (Decidable (bact δ _))
  | .inr (.inl t), c => inferInstanceAs (Decidable (sact t c))
  | .inr (.inr (.inl t)), c => inferInstanceAs (Decidable (ract t c))
  | .inr (.inr (.inr _)), _ => inferInstanceAs (Decidable True)

/-- A device that receives a transfer is one that the barrier links with the sender. -/
theorem bact_of_ract : ∀ (t : T) (c : Dev nD), ract t c → bact (dirOf t) c := by decide +kernel

/-- The tile a transfer lands in at `c`, held fully at contents `f`. -/
def segPts (t : T) (c : Dev nD) (q : PosShare TreeShare) (f : S32768x1024.Idx → Elt F .bf16) : sProp 𝕄 :=
  (outT (tile t c)).view.loc (c : Thread nD τ) ↦[(outT (tile t c)).view.set]{q} f
/-- A device's own rows of the result. -/
def ownPts (c : Dev nD) (f : S32768x1024.Idx → Elt F .bf16) : sProp 𝕄 :=
  (outC c).view.loc (c : Thread nD τ) ↦[(outC c).view.set]{fullShare} f
/-- The tile at some contents. -/
def landing (t : T) (c : Dev nD) : sProp 𝕄 := iprop(∃ f, segPts t c fullShare f)
/-- The landing tiles at `p` of the transfers the device along `δ` sends it. -/
def lands (δ : Fin 4) (p : Dev nD) : sProp 𝕄 :=
  bigSep Finset.univ fun t : T => if dirOf t = δ ∧ ract t p then landing t p else iprop(emp)

variable (m : (ℓ : Loc nD τ sig) → Buf (Elt F) ℓ)

/-- What a duty hands over: a signal, the landing tiles; an arrival, the filled tile; a departure, nothing; the copy, the device's own rows. -/
def pay : D → Dev nD → sProp 𝕄
  | .inl δ, c => lands δ (nb (opp δ) c)
  | .inr (.inl _), _ => iprop(emp)
  | .inr (.inr (.inl t)), c => segPts t c fullShare (G m c)
  | .inr (.inr (.inr _)), c => ownPts c (G m c)

omit [FloatOps F] in
instance segPts_storable (t : T) (c : Dev nD) (q) (f) : BI.Storable (upEmb : UEmb _ 𝕄) (segPts (F := F) t c q f) := by
  unfold segPts; infer_instance
omit [FloatOps F] in
instance ownPts_storable (c : Dev nD) (f) : BI.Storable (upEmb : UEmb _ 𝕄) (ownPts (F := F) c f) := by
  unfold ownPts; infer_instance
omit [FloatOps F] in
instance landing_storable (t : T) (c : Dev nD) : BI.Storable (upEmb : UEmb _ 𝕄) (landing (F := F) t c) := by
  unfold landing; infer_instance
omit [FloatOps F] in
instance lands_storable (δ : Fin 4) (c : Dev nD) : BI.Storable (upEmb : UEmb _ 𝕄) (lands (F := F) δ c) := by
  unfold lands
  have (t : T) : BI.Storable (upEmb : UEmb _ 𝕄) (if dirOf t = δ ∧ ract t c then landing (F := F) t c else iprop(emp)) := by
    split <;> infer_instance
  infer_instance

/-! ## The schedule -/

/-- One round, round 0, on each TensorCore's cells: the duties in use whose semaphore the cell is. -/
def sched : Rounds.Schedule (GSem nD τ sig) D 𝕄 where
  duties g r := if r = 0 ∧ g.1.2 = .tc then Finset.univ.filter (fun d => loc d = g.2 ∧ act d g.1.1) else ∅
  unitless _ := False
  amount _ _ d := amt d
  payload g _ d := pay m d g.1.1
  amount_pos _ _ d _ := amt_pos d

omit [FloatOps F] in
instance sched_storable (g : GSem nD τ sig) (r : ℕ) (d : D) : BI.Storable (upEmb : UEmb _ 𝕄) ((sched (F := F) m).payload g r d) := by
  show BI.Storable upEmb (pay m d g.1.1)
  rcases d with δ | t | t | u <;> unfold pay <;> infer_instance

omit [FloatOps F] in
/-- A duty in use is one of its cell's round. -/
theorem duties_at (d : D) (c : Dev nD) (h : act d c) : d ∈ (sched (F := F) m).duties (dutyCell d c) 0 := by
  dsimp only [sched]; rw [if_pos ⟨rfl, rfl⟩]
  exact Finset.mem_filter.mpr ⟨Finset.mem_univ _, rfl, h⟩
omit [FloatOps F] in
/-- After round 0 there are no duties. -/
theorem duties_later (g : GSem nD τ sig) : ∀ r, 1 ≤ r → (sched (F := F) m).duties g r = ∅ :=
  fun r hr => by dsimp only [sched]; exact if_neg fun h => by omega
omit [FloatOps F] in
/-- A DMA semaphore's only duty is that of its use. -/
theorem loc_eq (d : D) (u : T ⊕ T ⊕ Unit) (h : loc d = .dma (qOf u)) : d = .inr u := by
  rcases d with δ | v
  · cases h
  · have : qOf v = qOf u := by injection h
    rw [← useOf_qOf v, this, useOf_qOf]
omit [FloatOps F] in
/-- A DMA cell whose duty is in use has that one duty. -/
theorem duties_dma (u : T ⊕ T ⊕ Unit) (c : Dev nD) (h : act (.inr u) c) : (sched (F := F) m).duties (dutyCell (.inr u) c) 0 = {.inr u} := by
  dsimp only [sched]; rw [if_pos ⟨rfl, rfl⟩]
  ext d
  rw [Finset.mem_filter, Finset.mem_singleton]
  exact ⟨fun hd => loc_eq d u hd.2.1, fun hd => by subst hd; exact ⟨Finset.mem_univ _, rfl, h⟩⟩
omit [FloatOps F] in
/-- A cell whose duty is not in use has none. -/
theorem duties_idle (u : T ⊕ T ⊕ Unit) (c : Dev nD) (h : ¬ act (.inr u) c) : ∀ r, 0 ≤ r → (sched (F := F) m).duties (dutyCell (.inr u) c) r = ∅ := by
  intro r _
  dsimp only [sched]
  split
  · refine Finset.filter_eq_empty_iff.mpr fun d _ hd => h ?_
    rw [← loc_eq d u hd.1]; exact hd.2
  · rfl
omit [FloatOps F] in
/-- A DMA cell's round expects the amount of its duty. -/
theorem expect_dma (u : T ⊕ T ⊕ Unit) (c : Dev nD) (h : act (.inr u) c) : (sched (F := F) m).expect (dutyCell (.inr u) c) 0 = amt (.inr u) := by
  unfold Schedule.expect Schedule.amountOf; rw [duties_dma m u c h, Finset.sum_singleton]; rfl
omit [FloatOps F] in
/-- A DMA cell's round hands over the payload of its duty. -/
theorem rest_dma (u : T ⊕ T ⊕ Unit) (c : Dev nD) (h : act (.inr u) c) :
    bigSep ((sched (F := F) m).duties (dutyCell (.inr u) c) 0 \ ∅) (fun d => (sched (F := F) m).payload (dutyCell (.inr u) c) 0 d) = pay m (.inr u) c := by
  rw [Finset.sdiff_empty, duties_dma m u c h, bigSep_singleton]; rfl

/-- The signals in use at a device's barrier. -/
abbrev bars (c : Dev nD) : Finset (Fin 4) := Finset.univ.filter fun δ => act (.inl δ) c
omit [FloatOps F] in
/-- A barrier cell's duties are the signals in use. -/
theorem duties_bar (c : Dev nD) : (sched (F := F) m).duties (barCell c) 0 = (bars c).map ⟨Sum.inl, Sum.inl_injective⟩ := by
  dsimp only [sched]; rw [if_pos ⟨rfl, rfl⟩]
  ext d
  rw [Finset.mem_filter, Finset.mem_map]
  constructor
  · rintro ⟨-, h1, h2⟩
    rcases d with δ | u
    · exact ⟨δ, Finset.mem_filter.mpr ⟨Finset.mem_univ _, h2⟩, rfl⟩
    · cases h1
  · rintro ⟨δ, h, rfl⟩
    exact ⟨Finset.mem_univ _, rfl, (Finset.mem_filter.mp h).2⟩
omit [FloatOps F] in
/-- A barrier cell's round expects as many units as there are signals in use. -/
theorem expect_bar (c : Dev nD) : (sched (F := F) m).expect (barCell c) 0 = (bars c).card := by
  unfold Schedule.expect Schedule.amountOf; rw [duties_bar, Finset.sum_map]
  show ∑ δ ∈ bars c, 1 = _
  rw [Finset.sum_const, smul_eq_mul, mul_one]

omit [FloatOps F] in
/-- A family of nothing is nothing. -/
theorem bigSep_nothing {I : Type} (s : Finset I) : (bigSep s fun _ : I => (iprop(emp) : sProp 𝕄)) = iprop(emp) := bigSep_emp_const s

omit [FloatOps F] in
/-- A family sorted by the value of a function on its indices, then swapped, is the family. -/
theorem sorted {I : Type} [Fintype I] [DecidableEq I] (f : I → Fin 4) (p : I → Prop) [DecidablePred p] (A : I → sProp 𝕄) :
    (bigSep Finset.univ fun δ : Fin 4 => bigSep Finset.univ fun t : I => if f t = δ ∧ p t then A t else iprop(emp))
      = bigSep Finset.univ fun t : I => if p t then A t else iprop(emp) := by
  rw [bigSep_univ_comm]
  refine bigSep_congr fun t _ => ?_
  rw [bigSep_univ_split (f t), bigSep_congr (s := Finset.univ.erase (f t)) (Ψ := fun _ => (iprop(emp) : sProp 𝕄))
    (fun δ hδ => if_neg fun h => (Finset.mem_erase.mp hδ).1 h.1.symm), bigSep_nothing]
  by_cases h : p t
  · rw [if_pos ⟨rfl, h⟩, if_pos h]; exact BI.equiv_iff.mp sep_emp
  · rw [if_neg (fun h' => h h'.2), if_neg h]; exact BI.equiv_iff.mp sep_emp

omit [FloatOps F] in
/-- What a device's barrier round hands it: the landing tile of every transfer it will send. -/
theorem rest_bar (c : Dev nD) :
    bigSep ((sched (F := F) m).duties (barCell c) 0 \ ∅) (fun d => (sched (F := F) m).payload (barCell c) 0 d)
      = bigSep Finset.univ fun t : T => if sact t c then landing t (tgt t c) else iprop(emp) := by
  rw [Finset.sdiff_empty, duties_bar, bigSep_map, ← sorted dirOf (fun t => sact t c) (fun t => landing (F := F) t (tgt t c)), bigSep_filter]
  refine bigSep_congr fun δ _ => ?_
  show (if act (.inl δ) c then lands δ (nb (opp δ) c) else iprop(emp)) = _
  by_cases h : act (.inl δ) c
  · rw [if_pos h]; unfold lands
    refine bigSep_congr fun t _ => ?_
    by_cases ht : dirOf t = δ
    · subst ht; rfl
    · rw [if_neg (fun h => ht h.1), if_neg (fun h => ht h.1)]
  · rw [if_neg h, bigSep_congr (Ψ := fun _ => (iprop(emp) : sProp 𝕄)) (fun t _ => if_neg ?_), bigSep_nothing]
    rintro ⟨rfl, ht⟩
    exact h (bact_of_ract t _ ht)

/-! ## Levels -/

/-- The labels of a cell: one on a TensorCore, none elsewhere. -/
def L (g : GSem nD τ sig) : Finset Unit := if g.1.2 = .tc then {()} else ∅
/-- The level of a cell: a receive cell's place in the order its device waits in, counted from one; zero otherwise. -/
def lv (g : GSem nD τ sig) (_ : Unit) : ℕ := match g.2 with
  | .reg _ => 0
  | .dma q => match useOf q with | .inr (.inl t) => 1 + rpos t | _ => 0
/-- Elsewhere than on a TensorCore there is no label; -/
theorem L_of_ne (g : GSem nD τ sig) (h : g.1.2 ≠ .tc) : L g = ∅ := if_neg h
/-- on one there is one. -/
theorem L_tc (c : Dev nD) (sm : SemLoc sig) : L ((c : Thread nD τ), sm) = {()} := if_pos rfl
/-- The level of a receive cell, -/
theorem lv_recv (t : T) (c : Dev nD) : lv (dCell (rq t) c) () = 1 + rpos t := by
  show (match useOf (rq t) with | .inr (.inl t) => 1 + rpos t | _ => 0) = _
  rw [useOf_rq]
/-- and of a barrier cell. -/
theorem lv_bar (c : Dev nD) : lv (barCell c) () = 0 := rfl

end Cert.Gather
end
-- ==== Proof.State.lean ====
/-
A device's holdings while it runs. The program's progress is four numbers: how far along the orders of sending,
receiving and waiting for departures it is, and how far the copy of its own block. The holdings are a function of these
four, and each kind of effect moves one of them on. The rules below say so once for every transfer.
-/
module

public import proofs.«01_k».proof.Proof.Sched

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

variable (m : (ℓ : Loc nD τ sig) → Buf (Elt F) ℓ) (K : Dev nD × SI → ℕ) (c : Dev nD)

/-! ## What is known for good -/

/-- Every cell's invariant, that every cell's round 0 is reached, and the levels. -/
def records : sProp 𝕄 :=
  iprop((bigSep Finset.univ fun ck : Dev nD × SI => cellInv ER (sched (F := F) m) (K ck) (kcell ck))
    ∗ (bigSep Finset.univ fun ck : Dev nD × SI => reached ER (kcell ck) 0) ∗ levAts L lv)
instance records_persistent : BI.Persistent (records (F := F) m K) := by unfold records; infer_instance

omit [FloatOps F] in
/-- One invariant of all. -/
theorem inv_of (ck : Dev nD × SI) :
    (bigSep Finset.univ fun ck : Dev nD × SI => (cellInv ER (sched (F := F) m) (K ck) (kcell ck) : sProp 𝕄)) ⊢ cellInv ER (sched (F := F) m) (K ck) (kcell ck) :=
  bigSep_elim (Finset.mem_univ ck)
omit [FloatOps F] in
/-- One reached-round fact of all. -/
theorem reached_of (ck : Dev nD × SI) :
    (bigSep Finset.univ fun ck : Dev nD × SI => (reached ER (kcell ck) 0 : sProp 𝕄)) ⊢ reached ER (kcell ck) 0 :=
  bigSep_elim (Finset.mem_univ ck)
/-- The records hold a DMA cell's invariant, -/
theorem inv_at (q : DmaSem sig) : records (F := F) m K ⊢ cellInv ER (sched (F := F) m) (K (c, some q)) (dCell q c) := by
  unfold records; iintro ⟨H, -⟩
  iapply (inv_of m K (c, some q)); iexact H
/-- the barrier cell's, -/
theorem inv_bar : records (F := F) m K ⊢ cellInv ER (sched (F := F) m) (K (c, none)) (barCell c) := by
  unfold records; iintro ⟨H, -⟩
  iapply (inv_of m K (c, none)); iexact H
/-- that a DMA cell's round 0 is reached, -/
theorem reached_at (q : DmaSem sig) : records (F := F) m K ⊢ reached ER (dCell q c) 0 := by
  unfold records; iintro ⟨-, H, -⟩
  iapply (reached_of (F := F) (c, some q)); iexact H
/-- and the barrier cell's. -/
theorem reached_bar : records (F := F) m K ⊢ reached ER (barCell c) 0 := by
  unfold records; iintro ⟨-, H, -⟩
  iapply (reached_of (F := F) (c, none)); iexact H
/-! ## Holdings -/

/-- A received tile, of which some share is kept. -/
def rd (t : T) : sProp 𝕄 := iprop(∃ q, segPts t c q (G m c))
/-- The device's block of the operand, of which some share is kept. -/
def xPts : sProp 𝕄 := iprop(∃ q, xM.view.loc (c : Thread nD τ) ↦[xM.view.set]{q} (xval m c))

/-- What is held on account of a transfer to send, before it is sent; -/
def toSend (t : T) : sProp 𝕄 :=
  iprop((dutyTok ER (dCell (sq t) c) 0 (.inr (.inl t)) ∗ dutyTok ER (dCell (rq t) (tgt t c)) 0 (.inr (.inr (.inl t))) ∗ landing t (tgt t c))
    ∗ atPos ER (dCell (sq t) c) 0 ∅ 0)
/-- sent; -/
def sent (t : T) : sProp 𝕄 := iprop(cred (tallyAt (dCell (sq t) c) () N) ∗ atPos ER (dCell (sq t) c) 0 ∅ 0)
/-- on account of a transfer to receive, before its arrival is known; -/
def toRecv (t : T) : sProp 𝕄 := iprop(cred (tallyAt (dCell (rq t) c) () N) ∗ atPos ER (dCell (rq t) c) 0 ∅ 0)
/-- and after. -/
def recvd (t : T) : sProp 𝕄 := iprop(rd m c t ∗ atPos ER (dCell (rq t) c) 1 ∅ 0)

/-- What is held on account of a transfer's sending, `ns` positions into the order of sending and `nw` into that of the departures. -/
def sendSt (ns nw : ℕ) (t : T) : sProp 𝕄 :=
  if sact t c then (if ns ≤ spos t then toSend c t else if nw ≤ wpos t then sent c t else atPos ER (dCell (sq t) c) 1 ∅ 0)
  else atPos ER (dCell (sq t) c) 0 ∅ 0
/-- What is held on account of a transfer's arrival, `nr` positions into the order of receiving. -/
def recvSt (nr : ℕ) (t : T) : sProp 𝕄 :=
  if ract t c then (if nr ≤ rpos t then toRecv c t else recvd m c t) else atPos ER (dCell (rq t) c) 0 ∅ 0
/-- On account of the copy of the device's own block: before it starts, while it runs, after it. -/
def toCopy : sProp 𝕄 := iprop((dutyTok ER (dCell cq c) 0 (.inr (.inr (.inr ()))) ∗ ∃ f, ownPts c f) ∗ atPos ER (dCell cq c) 0 ∅ 0)
/-- The copy of the device's own block while it runs, -/
def copying : sProp 𝕄 := iprop(cred (tallyAt (dCell cq c) () NC) ∗ atPos ER (dCell cq c) 0 ∅ 0)
/-- after it, -/
def copied : sProp 𝕄 := iprop(ownPts c (G m c) ∗ atPos ER (dCell cq c) 1 ∅ 0)
/-- and at each of its three stages. -/
def cpSt (n : ℕ) : sProp 𝕄 := if n = 0 then toCopy c else if n = 1 then copying c else copied m c

/-- What a device owes: the arrival of every transfer still to be sent. -/
def owed1 (ns : ℕ) (t : T) : CellTallies nD τ sig Unit := if sact t c ∧ ns ≤ spos t then tallyAt (dCell (rq t) (tgt t c)) () N else 0
/-- All that a device owes, `ns` positions into the order of sending. -/
def O (ns : ℕ) : CellTallies nD τ sig Unit := ∑ t, owed1 c ns t

/-- The holdings after the barrier. -/
def St (ns nr nw nc : ℕ) : sProp 𝕄 :=
  iprop(records (F := F) m K ∗ xPts m c ∗ (bigSep Finset.univ (sendSt (F := F) c ns nw)) ∗ (∃ W, owes (c : Thread nD τ) (O c ns) W)
    ∗ (bigSep Finset.univ (recvSt (F := F) m c nr)) ∗ cpSt m c nc ∗ atPos ER (barCell c) 1 ∅ 0)

/-! ## Moving on -/

omit [FloatOps F] in
/-- One member of a family, to be given back changed. -/
theorem step {I : Type} [Fintype I] [DecidableEq I] (Φ Φ' : I → sProp 𝕄) (t : I) (h : ∀ t', t' ≠ t → Φ t' = Φ' t') :
    bigSep Finset.univ Φ ⊢ iprop(Φ t ∗ (Φ' t -∗ bigSep Finset.univ Φ')) := by
  rw [bigSep_univ_split (Φ := Φ) t, bigSep_univ_split (Φ := Φ') t, bigSep_congr fun t' ht' => h t' (Finset.ne_of_mem_erase ht')]
  show iprop(Φ t ∗ bigSep (Finset.univ.erase t) Φ') ⊢ iprop(Φ t ∗ (Φ' t -∗ iprop(Φ' t ∗ bigSep (Finset.univ.erase t) Φ')))
  iintro ⟨H, Hr⟩
  isplitl [H]; · iexact H
  iintro H
  isplitl [H] <;> iassumption

/-- Of two transfers at different positions, from one's on means after it for the other. -/
theorem le_iff_of_ne {p : T → ℕ} (hp : Function.Injective p) {t t' : T} (h : t' ≠ t) : p t ≤ p t' ↔ p t + 1 ≤ p t' := by
  have : p t' ≠ p t := fun e => h (hp e)
  omega

omit [FloatOps F] in
/-- What is owed before a transfer is sent is what is owed after, and its arrival. -/
theorem owed_step (t : T) (h : sact t c) : O c (spos t) = O c (spos t + 1) + tallyAt (dCell (rq t) (tgt t c)) () N := by
  unfold O
  rw [← Finset.add_sum_erase _ _ (Finset.mem_univ t), ← Finset.add_sum_erase (a := t) _ (owed1 c (spos t + 1)) (Finset.mem_univ t)]
  rw [Finset.sum_congr rfl fun t' ht' => show owed1 c (spos t) t' = owed1 c (spos t + 1) t' by
    unfold owed1; simp only [le_iff_of_ne spos_inj (Finset.ne_of_mem_erase ht')]]
  rw [show owed1 c (spos t) t = tallyAt (dCell (rq t) (tgt t c)) () N from if_pos ⟨h, le_rfl⟩,
    show owed1 c (spos t + 1) t = 0 from if_neg fun h => by omega, zero_add, add_comm]

/-- Going past positions of the three orders at which nothing is done here. -/
theorem St_skip {ns nr nw nc : ℕ} (ns' nr' nw' : ℕ) (hns : ns ≤ ns') (hnr : nr ≤ nr') (hnw : nw ≤ nw')
    (hs : ∀ t, ns ≤ spos t → spos t < ns' → ¬ sact t c) (hr : ∀ t, nr ≤ rpos t → rpos t < nr' → ¬ ract t c)
    (hw : ∀ t, nw ≤ wpos t → wpos t < nw' → ¬ sact t c) :
    St m K c ns nr nw nc = St m K c ns' nr' nw' nc := by
  have e1 : sendSt (F := F) c ns nw = sendSt c ns' nw' := by
    funext t; unfold sendSt
    by_cases h : sact t c
    · rw [if_pos h, if_pos h]
      have a1 : ns ≤ spos t ↔ ns' ≤ spos t := ⟨fun h1 => by by_contra h2; exact hs t h1 (by omega) h, fun h1 => hns.trans h1⟩
      have a2 : nw ≤ wpos t ↔ nw' ≤ wpos t := ⟨fun h1 => by by_contra h2; exact hw t h1 (by omega) h, fun h1 => hnw.trans h1⟩
      simp only [a1, a2]
    · rw [if_neg h, if_neg h]
  have e2 : recvSt (F := F) m c nr = recvSt m c nr' := by
    funext t; unfold recvSt
    by_cases h : ract t c
    · rw [if_pos h, if_pos h]
      have a1 : nr ≤ rpos t ↔ nr' ≤ rpos t := ⟨fun h1 => by by_contra h2; exact hr t h1 (by omega) h, fun h1 => hnr.trans h1⟩
      simp only [a1]
    · rw [if_neg h, if_neg h]
  have e3 : O c ns = O c ns' := by
    unfold O
    refine Finset.sum_congr rfl fun t _ => ?_
    unfold owed1
    have a1 : (sact t c ∧ ns ≤ spos t) ↔ (sact t c ∧ ns' ≤ spos t) :=
      ⟨fun ⟨h, h1⟩ => ⟨h, by by_contra h2; exact hs t h1 (by omega) h⟩, fun ⟨h, h1⟩ => ⟨h, hns.trans h1⟩⟩
    simp only [a1]
  unfold St
  rw [e1, e2, e3]

/-- At a wait, everything owed is above the cell: the levels let it wait. -/
theorem mayWait_at (ns : ℕ) (sm : SemLoc sig) (h : ∀ t, ns ≤ spos t → lv ((c : Thread nD τ), sm) () < 1 + rpos t) :
    (levAts L lv : sProp 𝕄) ⊢ MayWait (c : Thread nD τ) sm () (O c ns) := by
  have hO : ∀ (g : GSem nD τ sig) (u : Unit), 0 < O c ns g u → ∃ t, ns ≤ spos t ∧ g = dCell (rq t) (tgt t c) := by
    intro g u hg
    by_contra hno
    refine absurd hg (Nat.not_lt.mpr (Nat.le_zero.mpr ?_))
    unfold O
    rw [Finset.sum_apply, Finsupp.finset_sum_apply]
    refine Finset.sum_eq_zero fun t _ => ?_
    unfold owed1
    split
    · rename_i h1
      rw [tallyAt_apply, if_neg fun h2 => hno ⟨t, h1.2, h2.1⟩]
    · rfl
  refine MayOwe.of_cut (L := L) (lev := lv) (lv ((c : Thread nD τ), sm) ())
    (fun p hp => by rw [Finset.mem_singleton.mp hp, L_tc]; exact Finset.mem_singleton_self _)
    (fun g u hg => by obtain ⟨t, -, rfl⟩ := hO g u hg; rw [L_tc]; exact Finset.mem_singleton_self _)
    (fun p hp => by rw [Finset.mem_singleton.mp hp])
    (fun g u hg => by obtain ⟨t, ht, rfl⟩ := hO g u hg; rw [lv_recv]; exact h t ht)

/-- The records let a device wait below all that it owes. -/
theorem rec_mayWait (ns : ℕ) (sm : SemLoc sig) (h : ∀ t, ns ≤ spos t → lv ((c : Thread nD τ), sm) () < 1 + rpos t) :
    records (F := F) m K ⊢ MayWait (c : Thread nD τ) sm () (O c ns) := by
  unfold records; iintro ⟨-, -, H⟩
  iapply (mayWait_at (F := F) c ns sm h); iexact H

/-! ## The rules -/

omit [FloatOps F] in
/-- A receive cell's round hands over the filled tile. -/
theorem rest_recv (t : T) (h : ract t c) :
    bigSep ((sched (F := F) m).duties (dCell (rq t) c) 0 \ ∅) (fun d => (sched (F := F) m).payload (dCell (rq t) c) 0 d) = segPts t c fullShare (G m c) :=
  rest_dma m (.inr (.inl t)) c h
omit [FloatOps F] in
/-- The copy's round hands over the device's own rows. -/
theorem rest_copy :
    bigSep ((sched (F := F) m).duties (dCell cq c) 0 \ ∅) (fun d => (sched (F := F) m).payload (dCell cq c) 0 d) = ownPts c (G m c) :=
  rest_dma m (.inr (.inr ())) c trivial

omit [FloatOps F] in
/-- A points-to is two, of half the share each. -/
theorem halve {ℓ : Loc nD τ sig} (I) (q : PosShare TreeShare) (f : Buf (Elt F) ℓ) :
    (ℓ ↦[I]{q} f : sProp 𝕄) ⊢ iprop((ℓ ↦[I]{q.left} f) ∗ (ℓ ↦[I]{q.right} f)) :=
  (pointsTo_share (by rw [PosShare.left_op_right]; exact Part.mem_some _)).1

omit [FloatOps F] in
/-- What is held may be dropped. -/
theorem drop_to (P : sProp 𝕄) : P ⊢ iprop(emp) := by iintro -; iempintro

section Rules
variable {ns nr nw nc : ℕ}

/-- What a program must be started with for `Q` to hold of its end, on device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The wait for a transfer's arrival: the filled tile is received. -/
theorem recv_op {α : Type} {Q : α → sProp 𝕄} {k : PUnit → Prog (TpuEff nD τ sig (Elt F) Λ₀ .tc) α} (t : T) (ht : ract t c) (hn : rpos t = nr) (hlt : ∀ t', ns ≤ spos t' → nr < rpos t')
    {q : DmaSem sig} (hq : q = rq t) {src dst : Memref sig .tc .hbm S512x1024 .bf16} {hs : src.view.WordExact} {hd : dst.view.WordExact}
    (hN : dst.view.dmaCredit = N) (hk : St m K c ns (nr + 1) nw nc ⊢ WP c (k ⟨⟩) Q) :
    St m K c ns nr nw nc ⊢ WP c (.op (.waitDma2 q src dst hs hd) k) Q := by
  subst hq hn
  unfold St
  iintro ⟨#HR, Hx, Hs, ⟨%W, Ho⟩, Hr, Hc, Hb⟩
  have hI := inv_at (F := F) m K c (rq t)
  ihave #HI := hI $$ HR
  have e : ∀ t', t' ≠ t → recvSt (F := F) m c (rpos t) t' = recvSt m c (rpos t + 1) t' := fun t' h => by
    unfold recvSt; simp only [le_iff_of_ne rpos_inj h]
  have hw := rec_mayWait m K c ns (.dma (rq t)) fun t' h => by rw [lv_recv]; have := hlt t' h; omega
  have hx : 0 + dst.view.dmaCredit = (sched (F := F) m).expect (dCell (rq t) c) 0 := by
    rw [Nat.zero_add, hN]; exact (expect_dma (F := F) m (.inr (.inl t)) c ht).symm
  ihave H := (step (recvSt (F := F) m c (rpos t)) (recvSt m c (rpos t + 1)) t e) $$ Hr
  rw [show recvSt (F := F) m c (rpos t) t = toRecv c t by unfold recvSt; rw [if_pos ht, if_pos le_rfl],
    show recvSt (F := F) m c (rpos t + 1) t = recvd m c t by unfold recvSt; rw [if_pos ht, if_neg (by omega)]]
  unfold toRecv recvd rd
  icases H with ⟨⟨Hcr, Hat⟩, Hback⟩
  ihave Hcr := (Entails.of_eq (show (cred (tallyAt (dCell (rq t) c) () N) : sProp 𝕄) = cred (tallyAt (dCell (rq t) c) () dst.view.dmaCredit) by rw [hN])) $$ Hcr
  iapply (Rounds.wp_wait_rest_token 𝒱₀ ER (sched (F := F) m) (c : Thread nD τ) none (κ := K (c, some (rq t)))
      (wpE_waitDma2_eq 𝒱₀ (c : Thread nD τ) none Set.univ) (Set.mem_univ _) () (O := O c ns) (W := W) (R := 0) (m := 0) (T := ∅) hx) $$ [Hcr Ho Hat]
  · isplitr; · iexact HI
    isplitl [Hcr]; · iexact Hcr
    isplitl [Ho]; · iexact Ho
    isplitr
    · iapply hw
      iexact HR
    iexact Hat
  iintro ⟨Ho, Hat, -, Hpay⟩
  ihave Hp := (Entails.of_eq (rest_recv m c t ht)) $$ Hpay
  iapply hk
  unfold St
  isplitr; · iexact HR
  isplitl [Hx]; · iexact Hx
  isplitl [Hs]; · iexact Hs
  isplitl [Ho]; · iexists _; iexact Ho
  isplitl [Hback Hat Hp]
  · iapply Hback
    isplitl [Hp]; · iexists _; iexact Hp
    iexact Hat
  isplitl [Hc] <;> iassumption

/-- The transfer from a source whose contents, written to its tile, are the receiver's. -/
theorem send_op {α : Type} {Q : α → sProp 𝕄} {k : PUnit → Prog (TpuEff nD τ sig (Elt F) Λ₀ .tc) α} (t : T) (ht : sact t c) (hn : spos t = ns) (hw : nw ≤ wpos t)
    {s₁ s₂ : DmaSem sig} (h₁ : s₁ = sq t) (h₂ : s₂ = rq t) {n : Dev nD} (hd : n = tgt t c)
    {src : Memref sig .tc .hbm S512x1024 .bf16} {hsc : (outT (tile t (tgt t c))).view.ref.isScScratch = false}
    {hsrc : src.view.WordExact} {hdst : (outT (tile t (tgt t c))).view.WordExact}
    {hsem : DmaTarget.Typed .hbm (.dma s₂) (.remote (Dev.tc n : Thread nD τ) (outT (tile t (tgt t c))) (.dma s₁) hsc)}
    {q : PosShare TreeShare} {fs : Buf (Elt F) (src.view.loc (c : Thread nD τ))}
    (hval : ∀ fd, ∀ i ∈ (outT (tile t (tgt t c))).view.set,
      (outT (tile t (tgt t c))).view.write (Elt F) fd (src.view.read (Elt F) fs) Finset.univ i = G m (tgt t c) i)
    (hk : St m K c (ns + 1) nr nw nc ⊢ WP c (k ⟨⟩) Q) :
    iprop((src.view.loc (c : Thread nD τ) ↦[src.view.set]{q} fs) ∗ St m K c ns nr nw nc)
      ⊢ WP c (.op (.enqueueDma src (.remote (Dev.tc n : Thread nD τ) (outT (tile t (tgt t c))) (.dma s₁) hsc) (.dma s₂) hsrc hdst hsem) k) Q := by
  subst h₁ h₂ hn hd
  have e : ∀ t', t' ≠ t → sendSt (F := F) c (spos t) nw t' = sendSt c (spos t + 1) nw t' := fun t' h => by
    unfold sendSt; simp only [le_iff_of_ne spos_inj h]
  have e1 : sendSt (F := F) c (spos t) nw t = toSend c t := by unfold sendSt; rw [if_pos ht, if_pos le_rfl]
  have e2 : sendSt (F := F) c (spos t + 1) nw t = sent c t := by unfold sendSt; rw [if_pos ht, if_neg (by omega), if_pos hw]
  have hN : (outT (tile t (tgt t c))).view.amount (.dma (rq t)) = N := N_outT _
  have hk1 : (sched (F := F) m).amount (dCell (sq t) c) 0 (.inr (.inl t)) = N := rfl
  have hk2 : (sched (F := F) m).amount (dCell (rq t) (tgt t c)) 0 (.inr (.inr (.inl t))) = N := rfl
  have hpay1 : (src.view.loc (c : Thread nD τ) ↦[src.view.set]{q} fs : sProp 𝕄) ⊢ (sched (F := F) m).payload (dCell (sq t) c) 0 (.inr (.inl t)) := drop_to _
  have hpay (fd) : ((outT (tile t (tgt t c))).view.loc (tgt t c : Thread nD τ) ↦[(outT (tile t (tgt t c))).view.set]{fullShare}
        ((outT (tile t (tgt t c))).view.write (Elt F) fd (src.view.read (Elt F) fs) Finset.univ) : sProp 𝕄)
      ⊢ (sched (F := F) m).payload (dCell (rq t) (tgt t c)) 0 (.inr (.inr (.inl t))) :=
    Entails.of_eq (pointsTo_congr (hval fd))
  unfold St
  iintro ⟨Hsrc, #HR, Hx, Hs, ⟨%W, Ho⟩, Hr, Hc, Hb⟩
  ihave #HI1 := (inv_at m K c (sq t)) $$ HR
  ihave #HI2 := (inv_at m K (tgt t c) (rq t)) $$ HR
  ihave #HR1 := (reached_at m K c (sq t)) $$ HR
  ihave #HR2 := (reached_at m K (tgt t c) (rq t)) $$ HR
  ihave H := (step (sendSt (F := F) c (spos t) nw) (sendSt c (spos t + 1) nw) t e) $$ Hs
  rw [e1, e2, owed_step c t ht]
  unfold toSend sent landing segPts
  icases H with ⟨⟨⟨Hd1, Hd2, ⟨%fd, Hdst⟩⟩, Hat⟩, Hback⟩
  iapply (Rounds.wp_send_pointsTo 𝒱₀ ER (sched (F := F) m) (c : Thread nD τ) none (κ₁ := K (c, some (sq t))) (κ₂ := K (tgt t c, some (rq t)))
      (r₁ := 0) (r₂ := 0) (d₁ := .inr (.inl t)) (d₂ := .inr (.inr (.inl t))) (fd := fd)
      (duties_at m (.inr (.inl t)) c ht) (duties_at m (.inr (.inr (.inl t))) (tgt t c) ht)
      () () N hN hk1 hk2 (O c (spos t + 1)) rfl (W := W) hpay1 (hpay fd)) $$ [Hsrc Hdst Ho Hd1 Hd2]
  · isplitr; · iexact HI1
    isplitr; · iexact HI2
    isplitl [Hsrc]; · iexact Hsrc
    isplitl [Hdst]; · iexact Hdst
    isplitl [Ho]; · iexact Ho
    isplitl [Hd1]; · iexact Hd1
    isplitr; · iexact HR1
    isplitl [Hd2]; · iexact Hd2
    iexact HR2
  iintro ⟨Hcr, Ho⟩
  iapply hk
  unfold St
  isplitr; · iexact HR
  isplitl [Hx]; · iexact Hx
  isplitl [Hback Hat Hcr]
  · iapply Hback
    isplitl [Hcr]; · iexact Hcr
    iexact Hat
  isplitl [Ho]; · iexists W; iexact Ho
  isplitl [Hr]; · iexact Hr
  isplitl [Hc] <;> iassumption

/-- The transfer of a device's own block. -/
theorem sendX_op {α : Type} {Q : α → sProp 𝕄} {k : PUnit → Prog (TpuEff nD τ sig (Elt F) Λ₀ .tc) α} (t : T) (ht : sact t c) (hf : fromX t) (hn : spos t = ns) (hw : nw ≤ wpos t)
    {s₁ s₂ : DmaSem sig} (h₁ : s₁ = sq t) (h₂ : s₂ = rq t) {n : Dev nD} (hd : n = tgt t c)
    {hsc : (outT (tile t (tgt t c))).view.ref.isScScratch = false}
    {hsrc : (xT (xtile t c)).view.WordExact} {hdst : (outT (tile t (tgt t c))).view.WordExact}
    {hsem : DmaTarget.Typed .hbm (.dma s₂) (.remote (Dev.tc n : Thread nD τ) (outT (tile t (tgt t c))) (.dma s₁) hsc)}
    (hk : St m K c (ns + 1) nr nw nc ⊢ WP c (k ⟨⟩) Q) :
    St m K c ns nr nw nc
      ⊢ WP c (.op (.enqueueDma (xT (xtile t c)) (.remote (Dev.tc n : Thread nD τ) (outT (tile t (tgt t c))) (.dma s₁) hsc) (.dma s₂) hsrc hdst hsem) k) Q := by
  have h : St m K c ns nr nw nc ⊢ iprop((∃ q, (xT (xtile t c)).view.loc (c : Thread nD τ) ↦[(xT (xtile t c)).view.set]{q} (xval m c)) ∗ St m K c ns nr nw nc) := by
    unfold St xPts
    iintro ⟨#HR, ⟨%q, Hx⟩, H⟩
    ihave Hx := (halve _ q _) $$ Hx
    icases Hx with ⟨Hx, Hy⟩
    isplitl [Hy]
    · ihave Hy := (pointsTo_split_subset (I := (xT (xtile t c)).view.set) (View.set_slice_subset xM.view _)).1 $$ Hy
      icases Hy with ⟨Hy, -⟩
      iexists _; iexact Hy
    isplitr; · iexact HR
    isplitl [Hx]; · iexists _; iexact Hx
    iexact H
  refine h.trans ?_
  iintro ⟨⟨%q, Hx⟩, H⟩
  iapply (send_op m K c t ht hn hw h₁ h₂ hd (landed_fromX m t c ht hf) hk)
  isplitl [Hx] <;> iassumption

/-- The transfer that passes on a tile received by the transfer `p`. -/
theorem pass_op {α : Type} {Q : α → sProp 𝕄} {k : PUnit → Prog (TpuEff nD τ sig (Elt F) Λ₀ .tc) α} (t p : T) (ht : sact t c) (hf : ¬ fromX t) (hn : spos t = ns) (hw : nw ≤ wpos t)
    (hp : ract p c) (hpn : rpos p < nr) (hpt : tile p c = tile t (tgt t c))
    {s₁ s₂ : DmaSem sig} (h₁ : s₁ = sq t) (h₂ : s₂ = rq t) {n : Dev nD} (hd : n = tgt t c)
    {hsc : (outT (tile t (tgt t c))).view.ref.isScScratch = false}
    {hsrc : (outT (tile t (tgt t c))).view.WordExact} {hdst : (outT (tile t (tgt t c))).view.WordExact}
    {hsem : DmaTarget.Typed .hbm (.dma s₂) (.remote (Dev.tc n : Thread nD τ) (outT (tile t (tgt t c))) (.dma s₁) hsc)}
    (hk : St m K c (ns + 1) nr nw nc ⊢ WP c (k ⟨⟩) Q) :
    St m K c ns nr nw nc
      ⊢ WP c (.op (.enqueueDma (outT (tile t (tgt t c))) (.remote (Dev.tc n : Thread nD τ) (outT (tile t (tgt t c))) (.dma s₁) hsc) (.dma s₂) hsrc hdst hsem) k) Q := by
  have e1 : recvSt (F := F) m c nr p = recvd m c p := by unfold recvSt; rw [if_pos hp, if_neg (by omega)]
  have h : St m K c ns nr nw nc ⊢ iprop((∃ q, (outT (tile t (tgt t c))).view.loc (c : Thread nD τ) ↦[(outT (tile t (tgt t c))).view.set]{q} (G m c))
      ∗ St m K c ns nr nw nc) := by
    unfold St
    iintro ⟨#HR, Hx, Hs, Ho, Hr, H⟩
    ihave Hr := (step (recvSt (F := F) m c nr) (recvSt m c nr) p fun _ _ => rfl) $$ Hr
    rw [e1]
    unfold recvd rd segPts
    rw [hpt]
    icases Hr with ⟨⟨⟨%q, Hp⟩, Hat⟩, Hback⟩
    ihave Hp := (halve _ q _) $$ Hp
    icases Hp with ⟨Hp, Hy⟩
    isplitl [Hy]; · iexists _; iexact Hy
    isplitr; · iexact HR
    isplitl [Hx]; · iexact Hx
    isplitl [Hs]; · iexact Hs
    isplitl [Ho]; · iexact Ho
    isplitl [Hback Hp Hat]
    · iapply Hback
      isplitl [Hp]; · iexists _; iexact Hp
      iexact Hat
    iexact H
  refine h.trans ?_
  iintro ⟨⟨%q, Hx⟩, H⟩
  iapply (send_op m K c t ht hn hw h₁ h₂ hd (landed_pass m t c ht hf) hk)
  isplitl [Hx] <;> iassumption

/-- Nothing is owed once the last transfer is sent. -/
theorem owed_end : O c nS = 0 := by
  unfold O
  refine Finset.sum_eq_zero fun t _ => ?_
  unfold owed1
  exact if_neg fun h => absurd (spos_lt t) (by omega)

/-- The wait for a transfer's departure. -/
theorem left_op {α : Type} {Q : α → sProp 𝕄} {k : PUnit → Prog (TpuEff nD τ sig (Elt F) Λ₀ .tc) α} (t : T) (ht : sact t c) (hn : wpos t = nw)
    {q : DmaSem sig} (hq : q = sq t) {src dst : Memref sig .tc .hbm S512x1024 .bf16} {hs : src.view.WordExact} {hd : dst.view.WordExact}
    (hN : dst.view.dmaCredit = N) (hk : St m K c nS nr (nw + 1) nc ⊢ WP c (k ⟨⟩) Q) :
    St m K c nS nr nw nc ⊢ WP c (.op (.waitDma2 q src dst hs hd) k) Q := by
  subst hq hn
  have h1 : ¬ nS ≤ spos t := Nat.not_le.mpr (spos_lt t)
  have e : ∀ t', t' ≠ t → sendSt (F := F) c nS (wpos t) t' = sendSt c nS (wpos t + 1) t' := fun t' h => by
    unfold sendSt; simp only [le_iff_of_ne wpos_inj h]
  have e1 : sendSt (F := F) c nS (wpos t) t = sent c t := by unfold sendSt; rw [if_pos ht, if_neg h1, if_pos le_rfl]
  have e2 : sendSt (F := F) c nS (wpos t + 1) t = atPos ER (dCell (sq t) c) 1 ∅ 0 := by
    unfold sendSt; rw [if_pos ht, if_neg h1, if_neg (by omega)]
  have hx : 0 + dst.view.dmaCredit = (sched (F := F) m).expect (dCell (sq t) c) 0 := by
    rw [Nat.zero_add, hN]; exact (expect_dma (F := F) m (.inl t) c ht).symm
  unfold St
  rw [owed_end]
  iintro ⟨#HR, Hx, Hs, ⟨%W, Ho⟩, Hr, Hc, Hb⟩
  ihave #HI := (inv_at m K c (sq t)) $$ HR
  ihave H := (step (sendSt (F := F) c nS (wpos t)) (sendSt c nS (wpos t + 1)) t e) $$ Hs
  rw [e1, e2]
  unfold sent
  icases H with ⟨⟨Hcr, Hat⟩, Hback⟩
  ihave Hcr := (Entails.of_eq (show (cred (tallyAt (dCell (sq t) c) () N) : sProp 𝕄) = cred (tallyAt (dCell (sq t) c) () dst.view.dmaCredit) by rw [hN])) $$ Hcr
  iapply (Rounds.wp_wait_rest_token 𝒱₀ ER (sched (F := F) m) (c : Thread nD τ) none (κ := K (c, some (sq t)))
      (wpE_waitDma2_eq 𝒱₀ (c : Thread nD τ) none Set.univ) (Set.mem_univ _) () (O := 0) (W := W) (R := 0) (m := 0) (T := ∅) hx) $$ [Hcr Ho Hat]
  · isplitr; · iexact HI
    isplitl [Hcr]; · iexact Hcr
    isplitl [Ho]; · iexact Ho
    isplitr
    · rw [MayWait_zero]; iempintro
    iexact Hat
  iintro ⟨Ho, Hat, -, -⟩
  iapply hk
  unfold St
  rw [owed_end]
  isplitr; · iexact HR
  isplitl [Hx]; · iexact Hx
  isplitl [Hback Hat]
  · iapply Hback; iexact Hat
  isplitl [Ho]; · iexists _; iexact Ho
  isplitl [Hr]; · iexact Hr
  isplitl [Hc] <;> iassumption

/-- The start of the copy of a device's own block, -/
theorem copy_op {α : Type} {Q : α → sProp 𝕄} {k : PUnit → Prog (TpuEff nD τ sig (Elt F) Λ₀ .tc) α}
    {q : DmaSem sig} (hq : q = cq) {hsrc : xM.view.WordExact} {hdst : (outC c).view.WordExact}
    {hsem : DmaTarget.Typed (nD := nD) (τ := τ) (p := .tc) .hbm (.dma q) (.here (outC c))}
    (hk : St m K c ns nr nw 1 ⊢ WP c (k ⟨⟩) Q) :
    St m K c ns nr nw 0 ⊢ WP c (.op (.enqueueDma xM (.here (outC c)) (.dma q) hsrc hdst hsem) k) Q := by
  subst hq
  have hN : (outC c).view.amount (.dma cq) = NC := NC_outC c
  have hk1 : (sched (F := F) m).amount (dCell cq c) 0 (.inr (.inr (.inr ()))) = NC := rfl
  have hpay (f : Buf (Elt F) ((outC c).view.loc (c : Thread nD τ))) (q : PosShare TreeShare) : iprop(((outC c).view.loc (c : Thread nD τ) ↦[(outC c).view.set]{fullShare}
        ((outC c).view.write (Elt F) f (xM.view.read (Elt F) (xval m c)) Finset.univ)) ∗ (xM.view.loc (c : Thread nD τ) ↦[xM.view.set]{q} (xval m c)) : sProp 𝕄)
      ⊢ (sched (F := F) m).payload (dCell cq c) 0 (.inr (.inr (.inr ()))) := by
    refine BIBase.Entails.trans ?_ (Entails.of_eq (pointsTo_congr (landed_copy m c f)))
    iintro ⟨H, -⟩
    iexact H
  unfold St
  rw [show cpSt (F := F) m c 0 = toCopy c from rfl]
  unfold toCopy xPts ownPts
  iintro ⟨#HR, ⟨%q, Hx⟩, Hs, Ho, Hr, ⟨⟨Hd, ⟨%f, Hown⟩⟩, Hat⟩, Hb⟩
  ihave #HI := (inv_at m K c cq) $$ HR
  ihave #HR1 := (reached_at m K c cq) $$ HR
  ihave Hx := (halve _ q _) $$ Hx
  icases Hx with ⟨Hx, Hy⟩
  iapply (Rounds.wp_copy_pointsTo 𝒱₀ ER (sched (F := F) m) (c : Thread nD τ) none (κ := K (c, some cq)) (r := 0) (d := .inr (.inr (.inr ())))
    (duties_at m (.inr (.inr (.inr ()))) c trivial) () NC hN hk1 (hpay f q.right)) $$ [Hy Hown Hd]
  · isplitr; · iexact HI
    isplitl [Hy]; · iexact Hy
    isplitl [Hown]; · iexact Hown
    isplitl [Hd]; · iexact Hd
    iexact HR1
  iintro Hcr
  iapply hk
  unfold St
  rw [show cpSt (F := F) m c 1 = copying c from rfl]
  unfold copying xPts
  isplitr; · iexact HR
  isplitl [Hx]; · iexists _; iexact Hx
  isplitl [Hs]; · iexact Hs
  isplitl [Ho]; · iexact Ho
  isplitl [Hr]; · iexact Hr
  isplitl [Hcr Hat]
  · isplitl [Hcr]; · iexact Hcr
    iexact Hat
  iexact Hb

/-- and the wait for it. -/
theorem copied_op {α : Type} {Q : α → sProp 𝕄} {k : PUnit → Prog (TpuEff nD τ sig (Elt F) Λ₀ .tc) α}
    {q : DmaSem sig} (hq : q = cq) {src dst : Memref sig .tc .hbm S8192x1024 .bf16} {hs : src.view.WordExact} {hd : dst.view.WordExact}
    (hN : dst.view.dmaCredit = NC) (hk : St m K c nS nr nw 2 ⊢ WP c (k ⟨⟩) Q) :
    St m K c nS nr nw 1 ⊢ WP c (.op (.waitDma2 q src dst hs hd) k) Q := by
  subst hq
  have hx : 0 + dst.view.dmaCredit = (sched (F := F) m).expect (dCell cq c) 0 := by
    rw [Nat.zero_add, hN]; exact (expect_dma (F := F) m (.inr (.inr ())) c trivial).symm
  unfold St
  rw [owed_end, show cpSt (F := F) m c 1 = copying c from rfl]
  unfold copying
  iintro ⟨#HR, Hx, Hs, ⟨%W, Ho⟩, Hr, ⟨Hcr, Hat⟩, Hb⟩
  ihave #HI := (inv_at m K c cq) $$ HR
  ihave Hcr := (Entails.of_eq (show (cred (tallyAt (dCell cq c) () NC) : sProp 𝕄) = cred (tallyAt (dCell cq c) () dst.view.dmaCredit) by rw [hN])) $$ Hcr
  iapply (Rounds.wp_wait_rest_token 𝒱₀ ER (sched (F := F) m) (c : Thread nD τ) none (κ := K (c, some cq))
      (wpE_waitDma2_eq 𝒱₀ (c : Thread nD τ) none Set.univ) (Set.mem_univ _) () (O := 0) (W := W) (R := 0) (m := 0) (T := ∅) hx) $$ [Hcr Ho Hat]
  · isplitr; · iexact HI
    isplitl [Hcr]; · iexact Hcr
    isplitl [Ho]; · iexact Ho
    isplitr
    · rw [MayWait_zero]; iempintro
    iexact Hat
  iintro ⟨Ho, Hat, -, Hpay⟩
  ihave Hp := (Entails.of_eq (rest_copy m c)) $$ Hpay
  iapply hk
  unfold St
  rw [owed_end, show cpSt (F := F) m c 2 = copied m c from rfl]
  unfold copied
  isplitr; · iexact HR
  isplitl [Hx]; · iexact Hx
  isplitl [Hs]; · iexact Hs
  isplitl [Ho]; · iexists _; iexact Ho
  isplitl [Hr]; · iexact Hr
  isplitl [Hp Hat]
  · isplitl [Hp]; · iexact Hp
    iexact Hat
  iexact Hb

end Rules

end Cert.Gather
end
-- ==== Proof.Blocks.lean ====
/-
The program's statements. The printed body is a row of conditional blocks, each with the effects of one hop; the
conditions, offsets, addressed devices and semaphores are functions of the device. Each rule here takes such functions
and the facts about them that make the statement the one the schedule expects; the facts are decided over the devices.
-/
module

public import proofs.«01_k».proof.Proof.State

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The programs the body's parts are. -/
abbrev PG (F : FTy → Type) (α : Type) := Prog (TpuEff nD τ sig (Elt F) Λ₀ .tc) α

variable {m : (ℓ : Loc nD τ sig) → Buf (Elt F) ℓ} {K : Dev nD × SI → ℕ} (c : Dev nD)
variable {ns nr nw nc : ℕ}

/-- Started with `S`, the program on device `c` ends with `Q` of its result. -/
@[irreducible] def Runs {α : Type} (S : sProp 𝕄) (p : PG F α) (Q : α → sProp 𝕄) : Prop := S ⊢ WP c p Q
theorem runs {α : Type} {S : sProp 𝕄} {p : PG F α} {Q : α → sProp 𝕄} : Runs c S p Q ↔ (S ⊢ WP c p Q) := by
  unfold Runs; exact Iff.rfl

/-- A conditional block, then the rest: taken, it moves the progress on; not taken, nothing between is this device's to do. -/
theorem blk {α : Type} {Q : α → sProp 𝕄} {cond : Dev nD → BitVec 1} {a : cond c = 1#1 → PG F α} {R : PG F α} {ns' nr' nw' : ℕ}
    (ha : ∀ h : cond c = 1#1, (Runs c (St m K c ns' nr' nw' nc) R Q) → (Runs c (St m K c ns nr nw nc) (a h) Q))
    (hk : Runs c (St m K c ns' nr' nw' nc) R Q)
    (hle : ns ≤ ns' ∧ nr ≤ nr' ∧ nw ≤ nw' := by decide +kernel)
    (hskip : ∀ d, cond d ≠ 1#1 → ∀ t, (ns ≤ spos t → spos t < ns' → ¬ sact t d) ∧ (nr ≤ rpos t → rpos t < nr' → ¬ ract t d)
      ∧ (nw ≤ wpos t → wpos t < nw' → ¬ sact t d) := by decide +kernel) :
    Runs c (St m K c ns nr nw nc) (dite (cond c = 1#1) a fun _ => R) Q := by
  by_cases h : cond c = 1#1
  · rw [dif_pos h]; exact ha h hk
  · rw [dif_neg h, St_skip m K c ns' nr' nw' hle.1 hle.2.1 hle.2.2 (fun t => (hskip c h t).1) (fun t => (hskip c h t).2.1) (fun t => (hskip c h t).2.2)]
    exact hk

/-- A wait for an arrival. -/
theorem recv {α : Type} {Q : α → sProp 𝕄} {k : PUnit → PG F α} {cond : Dev nD → BitVec 1} (h : cond c = 1#1)
    {q : DmaSem sig} {src dst : Memref sig .tc .hbm S512x1024 .bf16} {hs : src.view.WordExact} {hd : dst.view.WordExact}
    (hk : Runs c (St m K c ns (nr + 1) nw nc) (k ⟨⟩) Q)
    (hc : ∀ d, cond d = 1#1 → ract (rat nr) d := by decide +kernel) (hn : rpos (rat nr) = nr := by decide +kernel)
    (hlt : ∀ t', ns ≤ spos t' → nr < rpos t' := by decide +kernel) (hq : q = rq (rat nr) := by decide +kernel) (hN : dst.view.dmaCredit = N := by rfl) :
    Runs c (St m K c ns nr nw nc) (.op (.waitDma2 q src dst hs hd) k) Q :=
  (runs c).mpr <| recv_op _ _ c (rat nr) (hc c h) hn hlt hq hN ((runs c).mp hk)

/-- A wait for a departure. -/
theorem left {α : Type} {Q : α → sProp 𝕄} {k : PUnit → PG F α} {cond : Dev nD → BitVec 1} (h : cond c = 1#1)
    {q : DmaSem sig} {src dst : Memref sig .tc .hbm S512x1024 .bf16} {hs : src.view.WordExact} {hd : dst.view.WordExact}
    (hk : Runs c (St m K c nS nr (nw + 1) nc) (k ⟨⟩) Q)
    (hc : ∀ d, cond d = 1#1 → sact (wat nw) d := by decide +kernel) (hn : wpos (wat nw) = nw := by decide +kernel) (hq : q = sq (wat nw) := by decide +kernel) (hN : dst.view.dmaCredit = N := by rfl) :
    Runs c (St m K c nS nr nw nc) (.op (.waitDma2 q src dst hs hd) k) Q :=
  (runs c).mpr <| left_op _ _ c (wat nw) (hc c h) hn hq hN ((runs c).mp hk)

/-- A transfer passing on a received tile. -/
theorem pass {α : Type} {Q : α → sProp 𝕄} {k : PUnit → PG F α} {cond cond' : Dev nD → BitVec 1} (h : cond c = 1#1) (g : cond' c = 1#1)
    {off : Dev nD → Fin 2 → ℕ} {dev : Dev nD → ℕ} {s₁ s₂ : DmaSem sig}
    {inb₁ inb₂ : ∀ a, off c a + S512x1024.size a ≤ S32768x1024.size a} {st₁ st₂} {hlt : dev c < nD}
    {hsc : (oM.slice (Rect.unit (s := S32768x1024) (off c) S512x1024.size inb₂) st₂).view.ref.isScScratch = false}
    {hsrc : (oM.slice (Rect.unit (s := S32768x1024) (off c) S512x1024.size inb₁) st₁).view.WordExact}
    {hdst : (oM.slice (Rect.unit (s := S32768x1024) (off c) S512x1024.size inb₂) st₂).view.WordExact}
    {hsem : DmaTarget.Typed .hbm (.dma s₂) (.remote (Dev.tc (⟨dev c, hlt⟩ : Dev nD) : Thread nD τ)
      (oM.slice (Rect.unit (s := S32768x1024) (off c) S512x1024.size inb₂) st₂) (.dma s₁) hsc)}
    (hk : Runs c (St m K c (ns + 1) nr nw nc) (k ⟨⟩) Q)
    (hc : ∀ d, cond d = 1#1 → cond' d = 1#1 → sact (sat ns) d ∧ dev d = (tgt (sat ns) d).val ∧ off d = ![512 * (tile (sat ns) (tgt (sat ns) d)).val, 0] := by decide +kernel)
    (hf : ¬ fromX (sat ns) := by decide +kernel) (hn : spos (sat ns) = ns := by decide +kernel) (hw : nw ≤ wpos (sat ns) := by decide +kernel)
    (hp : rpos (par (sat ns)) < nr := by decide +kernel) (h₁ : s₁ = sq (sat ns) := by decide +kernel) (h₂ : s₂ = rq (sat ns) := by decide +kernel) :
    Runs c (St m K c ns nr nw nc) (.op (.enqueueDma (oM.slice (Rect.unit (s := S32768x1024) (off c) S512x1024.size inb₁) st₁)
          (.remote (Dev.tc (⟨dev c, hlt⟩ : Dev nD) : Thread nD τ) (oM.slice (Rect.unit (s := S32768x1024) (off c) S512x1024.size inb₂) st₂) (.dma s₁) hsc)
          (.dma s₂) hsrc hdst hsem) k) Q := by
  obtain ⟨hs, hd, ho⟩ := hc c h g
  revert inb₁ inb₂ st₁ st₂
  rw [ho]
  intro inb₁ inb₂ st₁ st₂ hsc hsrc hdst hsem
  exact (runs c).mpr <| pass_op _ _ c (sat ns) (par (sat ns)) hs hf hn hw (par_ok c (sat ns) hs hf).1 hp (par_ok c (sat ns) hs hf).2 h₁ h₂ (Fin.ext hd) ((runs c).mp hk)

/-- A transfer of a tile of the device's own block. -/
theorem sendX {α : Type} {Q : α → sProp 𝕄} {k : PUnit → PG F α} {cond : Dev nD → BitVec 1} (h : cond c = 1#1)
    {off off' : Dev nD → Fin 2 → ℕ} {dev : Dev nD → ℕ} {s₁ s₂ : DmaSem sig}
    {inb₁ : ∀ a, off' c a + S512x1024.size a ≤ S8192x1024.size a} {inb₂ : ∀ a, off c a + S512x1024.size a ≤ S32768x1024.size a} {st₁ st₂} {hlt : dev c < nD}
    {hsc : (oM.slice (Rect.unit (s := S32768x1024) (off c) S512x1024.size inb₂) st₂).view.ref.isScScratch = false}
    {hsrc : (xM.slice (Rect.unit (s := S8192x1024) (off' c) S512x1024.size inb₁) st₁).view.WordExact}
    {hdst : (oM.slice (Rect.unit (s := S32768x1024) (off c) S512x1024.size inb₂) st₂).view.WordExact}
    {hsem : DmaTarget.Typed .hbm (.dma s₂) (.remote (Dev.tc (⟨dev c, hlt⟩ : Dev nD) : Thread nD τ)
      (oM.slice (Rect.unit (s := S32768x1024) (off c) S512x1024.size inb₂) st₂) (.dma s₁) hsc)}
    (hk : Runs c (St m K c (ns + 1) nr nw nc) (k ⟨⟩) Q)
    (hc : ∀ d, cond d = 1#1 → sact (sat ns) d ∧ dev d = (tgt (sat ns) d).val ∧ off d = ![512 * (tile (sat ns) (tgt (sat ns) d)).val, 0] ∧ off' d = ![512 * (xtile (sat ns) d).val, 0] := by decide +kernel)
    (hf : fromX (sat ns) := by decide +kernel) (hn : spos (sat ns) = ns := by decide +kernel) (hw : nw ≤ wpos (sat ns) := by decide +kernel)
    (h₁ : s₁ = sq (sat ns) := by decide +kernel) (h₂ : s₂ = rq (sat ns) := by decide +kernel) :
    Runs c (St m K c ns nr nw nc) (.op (.enqueueDma (xM.slice (Rect.unit (s := S8192x1024) (off' c) S512x1024.size inb₁) st₁)
          (.remote (Dev.tc (⟨dev c, hlt⟩ : Dev nD) : Thread nD τ) (oM.slice (Rect.unit (s := S32768x1024) (off c) S512x1024.size inb₂) st₂) (.dma s₁) hsc)
          (.dma s₂) hsrc hdst hsem) k) Q := by
  obtain ⟨hs, hd, ho, ho'⟩ := hc c h
  revert inb₁ inb₂ st₁ st₂
  rw [ho, ho']
  intro inb₁ inb₂ st₁ st₂ hsc hsrc hdst hsem
  exact (runs c).mpr <| sendX_op _ _ c (sat ns) hs hf hn hw h₁ h₂ (Fin.ext hd) ((runs c).mp hk)

/-- The start of the copy of the own block. -/
theorem copy {α : Type} {Q : α → sProp 𝕄} {k : PUnit → PG F α} {off : Dev nD → Fin 2 → ℕ} {q : DmaSem sig}
    {inb : ∀ a, off c a + S8192x1024.size a ≤ S32768x1024.size a} {st} {hsrc : xM.view.WordExact}
    {hdst : (oM.slice (Rect.unit (s := S32768x1024) (off c) S8192x1024.size inb) st).view.WordExact}
    {hsem : DmaTarget.Typed (nD := nD) (τ := τ) (p := .tc) .hbm (.dma q) (.here (oM.slice (Rect.unit (s := S32768x1024) (off c) S8192x1024.size inb) st))}
    (hk : Runs c (St m K c ns nr nw 1) (k ⟨⟩) Q)
    (hoff : ∀ d, off d = ![8192 * zc d, 0] := by decide +kernel) (hq : q = cq := by decide +kernel) :
    Runs c (St m K c ns nr nw 0)
      (.op (.enqueueDma xM (.here (oM.slice (Rect.unit (s := S32768x1024) (off c) S8192x1024.size inb) st)) (.dma q) hsrc hdst hsem) k) Q := by
  revert inb st
  rw [hoff c]
  intro inb st hdst hsem
  exact (runs c).mpr <| copy_op _ _ c hq ((runs c).mp hk)

/-- The wait for the copy. -/
theorem copyDone {α : Type} {Q : α → sProp 𝕄} {k : PUnit → PG F α} {q : DmaSem sig} {src dst : Memref sig .tc .hbm S8192x1024 .bf16}
    {hs : src.view.WordExact} {hd : dst.view.WordExact} (hk : Runs c (St m K c nS nr nw 2) (k ⟨⟩) Q)
    (hq : q = cq := by decide +kernel) (hN : dst.view.dmaCredit = NC := by rfl) :
    Runs c (St m K c nS nr nw 1) (.op (.waitDma2 q src dst hs hd) k) Q :=
  (runs c).mpr <| copied_op _ _ c hq hN ((runs c).mp hk)

/-- The end of a part, -/
theorem fin {α : Type} {v : α} {S : sProp 𝕄} : Runs c S (.ret v) fun _ => S := by
  rw [runs]
  iintro H
  unfold WP
  rw [wp_ret]; imodintro
  iexact H

/-- and of one whose value matters. -/
theorem finV {α : Type} {v : α} {S : sProp 𝕄} : Runs c S (.ret v) fun r => iprop(⌜r = v⌝ ∗ S) := by
  rw [runs]
  iintro H
  unfold WP
  rw [wp_ret]; imodintro
  isplitr; · ipureintro; rfl
  iexact H

/-- A part, then the rest, -/
theorem call {α β : Type} {S S' : sProp 𝕄} {p : PG F α} {k : α → PG F β} {Q : β → sProp 𝕄}
    (hp : Runs c S p fun _ => S') (hk : ∀ v, Runs c S' (k v) Q) : Runs c S (p >>= k) Q := by
  simp only [runs] at *
  unfold WP at *
  rw [wp_bind]
  exact hp.trans ((wp _ _ _ p).mono hk)

/-- which may use the part's value. -/
theorem callV {α β : Type} {S S' : sProp 𝕄} {v : α} {p : PG F α} {k : α → PG F β} {Q : β → sProp 𝕄}
    (hp : Runs c S p fun r => iprop(⌜r = v⌝ ∗ S')) (hk : Runs c S' (k v) Q) : Runs c S (p >>= k) Q := by
  rw [runs] at *
  unfold WP at *
  rw [wp_bind]
  refine hp.trans ((wp _ _ _ p).mono fun r => ?_)
  show iprop(⌜r = v⌝ ∗ S') ⊢ _
  iintro ⟨%e, H⟩
  subst e
  iapply hk; iexact H

/-- A hop: the part up to the transfer along x, then the transfer along y. -/
theorem hop {α : Type} {Q : α → sProp 𝕄} {cond : Dev nD → BitVec 1} {p : cond c = 1#1 → PG F PUnit} {y : cond c = 1#1 → PG F α} {R : PG F α}
    (hp : ∀ h, Runs c (St m K c ns nr nw nc) (p h) fun _ => St m K c (ns + 2) (nr + 1) nw nc)
    (hy : ∀ h, Runs c (St m K c (ns + 3) (nr + 1) nw nc) R Q → Runs c (St m K c (ns + 2) (nr + 1) nw nc) (y h) Q)
    (hk : Runs c (St m K c (ns + 3) (nr + 1) nw nc) R Q)
    (hskip : ∀ d, cond d ≠ 1#1 → ∀ t, (ns ≤ spos t → spos t < ns + 3 → ¬ sact t d) ∧ (nr ≤ rpos t → rpos t < nr + 1 → ¬ ract t d)
      ∧ (nw ≤ wpos t → wpos t < nw → ¬ sact t d) := by decide +kernel) :
    Runs c (St m K c ns nr nw nc) (dite (cond c = 1#1) (fun h => p h >>= fun _ => y h) fun _ => R) Q :=
  blk c (fun h j => call c (hp h) fun _ => hy h j) hk ⟨by omega, by omega, le_rfl⟩ hskip

/-- A transfer beyond the line's end: no device makes it. -/
theorem hole {α : Type} {Q : α → sProp 𝕄} {cond cond' : Dev nD → BitVec 1} (h : cond c = 1#1) {a : cond' c = 1#1 → PG F α} {R : PG F α}
    (hk : Runs c (St m K c (ns + 1) nr nw nc) R Q)
    (hno : ∀ d, cond d = 1#1 → cond' d ≠ 1#1 := by decide +kernel) (hs : ∀ t, spos t ≠ ns := by decide +kernel) :
    Runs c (St m K c ns nr nw nc) (dite (cond' c = 1#1) a fun _ => R) Q := by
  rw [dif_neg (hno c h), St_skip m K c (ns + 1) nr nw (by omega) le_rfl le_rfl (fun t h₁ h₂ => absurd (by omega) (hs t)) (fun t _ _ => by omega) (fun t _ _ => by omega)]
  exact hk

/-- The wait for such a transfer's departure. -/
theorem gap {α : Type} {Q : α → sProp 𝕄} {cond : Dev nD → BitVec 1} {a : cond c = 1#1 → PG F α} {R : PG F α}
    (hk : Runs c (St m K c ns nr (nw + 1) nc) R Q)
    (hno : ∀ d, cond d ≠ 1#1 := by decide +kernel) (hs : ∀ t, wpos t ≠ nw := by decide +kernel) :
    Runs c (St m K c ns nr nw nc) (dite (cond c = 1#1) a fun _ => R) Q := by
  rw [dif_neg (hno c), St_skip m K c ns nr (nw + 1) le_rfl le_rfl (by omega) (fun t _ _ => by omega) (fun t _ _ => by omega) (fun t h₁ h₂ => absurd (by omega) (hs t))]
  exact hk

end Cert.Gather
end
-- ==== Proof.Bar.lean ====
/-
The barrier: each device tells every device it will receive from that it has entered, handing over the tiles that
device's transfers land in, and waits for the same from every device it will send to.
-/
module

public import proofs.«01_k».proof.Proof.Blocks
public import proofs.«01_k».proof.Proof.Gen.KernelIdeal.Skeleton

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × SI → ℕ} (c : Dev nD) {hx : xM.IsWhole} {ho : oM.IsWhole}

variable {nr nw nc : ℕ}

/-- What is held on account of a transfer to send, before the barrier. -/
def preSend (t : T) : sProp 𝕄 :=
  if sact t c then iprop((dutyTok ER (dCell (sq t) c) 0 (.inr (.inl t)) ∗ dutyTok ER (dCell (rq t) (tgt t c)) 0 (.inr (.inr (.inl t))))
    ∗ atPos ER (dCell (sq t) c) 0 ∅ 0) else atPos ER (dCell (sq t) c) 0 ∅ 0
/-- What is held on account of the signal along a direction when `n` of the directions are done. -/
def sigSt (n : ℕ) (δ : Fin 4) : sProp 𝕄 :=
  if bact δ c ∧ n ≤ δ.val then iprop(dutyTok ER (barCell (nb δ c)) 0 (.inl δ) ∗ lands δ c) else iprop(emp)
/-- The signals owed. -/
def owedB1 (n : ℕ) (δ : Fin 4) : CellTallies nD τ sig Unit := if bact δ c ∧ n ≤ δ.val then tallyAt (barCell (nb δ c)) () 1 else 0
/-- All signals owed when `n` of the directions are done. -/
def OB (n : ℕ) : CellTallies nD τ sig Unit := ∑ δ, owedB1 c n δ

variable (m K) in
/-- The holdings before the barrier, when `n` of the directions are signalled. -/
def BSt (n : ℕ) : sProp 𝕄 :=
  iprop(records (F := F) m K ∗ xPts m c ∗ (bigSep Finset.univ (preSend (F := F) c)) ∗ (∃ W, owes (c : Thread nD τ) (O c 0 + OB c n) W)
    ∗ (bigSep Finset.univ (sigSt (F := F) c n)) ∗ (bigSep Finset.univ (recvSt (F := F) m c 0)) ∗ toCopy c
    ∗ cred (tallyAt (barCell c) () (bars c).card) ∗ atPos ER (barCell c) 0 ∅ 0)

/-- The signals owed before one is made are those owed after, and it. -/
theorem owedB_step (δ : Fin 4) (h : bact δ c) : OB c δ.val = OB c (δ.val + 1) + tallyAt (barCell (nb δ c)) () 1 := by
  unfold OB
  rw [← Finset.add_sum_erase _ _ (Finset.mem_univ δ), ← Finset.add_sum_erase (a := δ) _ (owedB1 c (δ.val + 1)) (Finset.mem_univ δ)]
  rw [Finset.sum_congr rfl fun δ' h' => show owedB1 c δ.val δ' = owedB1 c (δ.val + 1) δ' by
    have h1 : δ'.val ≠ δ.val := fun e => Finset.ne_of_mem_erase h' (Fin.ext e)
    have h2 : (δ.val ≤ δ'.val) = (δ.val + 1 ≤ δ'.val) := by apply propext; omega
    unfold owedB1; simp only [h2]]
  rw [show owedB1 c δ.val δ = tallyAt (barCell (nb δ c)) () 1 from if_pos ⟨h, le_rfl⟩,
    show owedB1 c (δ.val + 1) δ = 0 from if_neg fun h => by omega, zero_add, add_comm]

/-- No signal is owed after the last direction. -/
theorem owedB_end : OB c 4 = 0 := by
  unfold OB
  refine Finset.sum_eq_zero fun δ _ => ?_
  unfold owedB1
  exact if_neg fun h => by have := δ.isLt; omega

/-- A direction the device does not signal along. -/
theorem BSt_skip (δ : Fin 4) (h : ¬ bact δ c) : BSt (F := F) m K c δ.val = BSt m K c (δ.val + 1) := by
  have h2 : ∀ δ' : Fin 4, (bact δ' c ∧ δ.val ≤ δ'.val) = (bact δ' c ∧ δ.val + 1 ≤ δ'.val) := fun δ' => propext
    ⟨fun ⟨a, b⟩ => ⟨a, by
      by_contra hc
      exact h ((Fin.ext (by omega) : δ' = δ) ▸ a)⟩, fun ⟨a, b⟩ => ⟨a, by omega⟩⟩
  have e1 : sigSt (F := F) c δ.val = sigSt c (δ.val + 1) := by funext δ'; unfold sigSt; simp only [h2]
  have e2 : OB c δ.val = OB c (δ.val + 1) := Finset.sum_congr rfl fun δ' _ => by unfold owedB1; simp only [h2]
  unfold BSt; rw [e1, e2]

/-- A signal along a direction. -/
theorem signal {α : Type} {Q : α → sProp 𝕄} {k : PUnit → PG F α} (δ : Fin 4) (h : bact δ c) {n : Dev nD} (hd : n = nb δ c)
    {sem : Sem sig} (hsem : sem = barS) (hk : Runs c (BSt m K c (δ.val + 1)) (k ⟨⟩) Q) :
    Runs c (BSt m K c δ.val) (.op (.semSignal ((n, .tc) : Thread nD τ) sem (1#32 : BitVec 32).toInt) k) Q := by
  subst hd hsem
  rw [runs] at *
  have hN : (sched (F := F) m).amount (barCell (nb δ c)) 0 (.inl δ) = (1#32 : BitVec 32).toInt.toNat := by
    show 1 = _; decide
  have hd : (.inl δ : D) ∈ (sched (F := F) m).duties (barCell (nb δ c)) 0 := duties_at m (.inl δ) (nb δ c) (by
    show bact δ (nb (opp δ) (nb δ c)); rw [nb_opp]; exact h)
  have hpay : (sched (F := F) m).payload (barCell (nb δ c)) 0 (.inl δ) = lands δ c := by
    show lands δ (nb (opp δ) (nb δ c)) = _; rw [nb_opp]
  have e : ∀ δ', δ' ≠ δ → sigSt (F := F) c δ.val δ' = sigSt c (δ.val + 1) δ' := fun δ' h' => by
    have h1 : δ'.val ≠ δ.val := fun e => h' (Fin.ext e)
    have h2 : (δ.val ≤ δ'.val) = (δ.val + 1 ≤ δ'.val) := by apply propext; omega
    unfold sigSt; simp only [h2]
  have e1 : sigSt (F := F) c δ.val δ = iprop(dutyTok ER (barCell (nb δ c)) 0 (.inl δ) ∗ lands δ c) := if_pos ⟨h, le_rfl⟩
  have e2 : sigSt (F := F) c (δ.val + 1) δ = iprop(emp) := if_neg fun h => by omega
  have hO : O c 0 + OB c δ.val = (O c 0 + OB c (δ.val + 1)) + tallyAt (barCell (nb δ c)) () 1 := by rw [owedB_step c δ h, add_assoc]
  unfold BSt
  iintro ⟨#HR, Hx, Hs, ⟨%W, Ho⟩, Hg, Hr⟩
  ihave #HI := (inv_bar m K (nb δ c)) $$ HR
  ihave #HR1 := (reached_bar m K (nb δ c)) $$ HR
  ihave H := (step (sigSt (F := F) c δ.val) (sigSt c (δ.val + 1)) δ e) $$ Hg
  rw [e1, e2, hO]
  icases H with ⟨⟨Ht, Hl⟩, Hback⟩
  iapply (Rounds.wp_signal 𝒱₀ ER (sched (F := F) m) (c : Thread nD τ) none (dst := (nb δ c : Thread nD τ)) (κ := K (nb δ c, none))
      (d := .inl δ) hd hN () (O c 0 + OB c (δ.val + 1)) rfl) $$ [Ho Ht Hl]
  · isplitr; · iexact HI
    isplitl [Ho]; · iexact Ho
    isplitl [Ht]; · iexact Ht
    isplitl [Hl]; · rw [hpay]; iexact Hl
    iexact HR1
  iintro Ho
  iapply hk
  unfold BSt
  isplitr; · iexact HR
  isplitl [Hx]; · iexact Hx
  isplitl [Hs]; · iexact Hs
  isplitl [Ho]; · iexists W; iexact Ho
  isplitl [Hback]
  · iapply Hback; iempintro
  iexact Hr

/-- A conditional signal, then the rest. -/
theorem blkB {α : Type} {Q : α → sProp 𝕄} {cond : Dev nD → BitVec 1} {a : cond c = 1#1 → PG F α} {R : PG F α} (δ : Fin 4)
    (ha : ∀ h : cond c = 1#1, (Runs c (BSt m K c (δ.val + 1)) R Q) → (Runs c (BSt m K c δ.val) (a h) Q))
    (hk : Runs c (BSt m K c (δ.val + 1)) R Q) (hskip : ∀ d, cond d ≠ 1#1 → ¬ bact δ d := by decide +kernel) :
    Runs c (BSt m K c δ.val) (dite (cond c = 1#1) a fun _ => R) Q := by
  by_cases h : cond c = 1#1
  · rw [dif_pos h]; exact ha h hk
  · rw [dif_neg h, BSt_skip c δ (hskip c h)]; exact hk

/-- The device's own number. -/
theorem devId {α : Type} {S : sProp 𝕄} {Q : α → sProp 𝕄} {k : Dev nD → PG F α} (hk : Runs c S (k c) Q) : Runs c S (.op .deviceId k) Q := by
  rw [runs] at *
  unfold WP
  rw [wp_deviceId]; exact hk

/-- The amount that the program waits for at its barrier is the number of signals in use. -/
theorem amt_word : ∀ c : Dev nD, (k0_amt1 c).toInt = ((bars c).card : ℤ) := by decide +kernel

/-- A transfer's holdings with its landing tile are those of a transfer to send. -/
theorem preSend_landing (t : T) :
    iprop(preSend (F := F) c t ∗ (if sact t c then landing t (tgt t c) else iprop(emp))) ⊢ sendSt (F := F) c 0 0 t := by
  unfold preSend sendSt
  by_cases h : sact t c
  · rw [if_pos h, if_pos h, if_pos h, if_pos (Nat.zero_le _)]
    unfold toSend
    iintro ⟨⟨⟨Ha, Hb⟩, Hc⟩, Hd⟩
    isplitr [Hc]
    · isplitl [Ha]; · iexact Ha
      isplitl [Hb]; · iexact Hb
      iexact Hd
    iexact Hc
  · rw [if_neg h, if_neg h, if_neg h]
    iintro ⟨Ha, -⟩
    iexact Ha

/-- The wait at the barrier: the landing tile of every transfer to send comes with it. -/
theorem barWait {α : Type} {Q : α → sProp 𝕄} {k : PUnit → PG F α} {sem : Sem sig} (hsem : sem = barS)
    (hk : Runs c (St m K c 0 0 0 0) (k ⟨⟩) Q) :
    Runs c (BSt m K c 4) (.op (.semWait sem (k0_amt1 c).toInt) k) Q := by
  subst hsem
  rw [runs] at *
  rw [amt_word c]
  have hx : 0 + (bars c).card = (sched (F := F) m).expect (barCell c) 0 := by rw [Nat.zero_add, expect_bar]
  have hw := rec_mayWait (F := F) m K c 0 (.reg barS) fun t' h => by
    show (0 : ℕ) < 1 + rpos t'; omega
  have hO : O c 0 + OB c 4 = O c 0 := by rw [owedB_end, add_zero]
  unfold BSt
  rw [hO]
  iintro ⟨#HR, Hx, Hs, ⟨%W, Ho⟩, -, Hr, Hc, Hcr, Hat⟩
  ihave #HI := (inv_bar m K c) $$ HR
  iapply (Rounds.wp_wait_rest_token 𝒱₀ ER (sched (F := F) m) (c : Thread nD τ) none (κ := K (c, none))
      (wpE_semWait_eq 𝒱₀ (c : Thread nD τ) none Set.univ) (Set.mem_univ _) () (O := O c 0) (W := W) (R := 0) (m := 0) (T := ∅) hx) $$ [Hcr Ho Hat]
  · isplitr; · iexact HI
    isplitl [Hcr]; · iexact Hcr
    isplitl [Ho]; · iexact Ho
    isplitr
    · iapply hw
      iexact HR
    iexact Hat
  iintro ⟨Ho, Hat, -, Hpay⟩
  ihave Hp := (Entails.of_eq (rest_bar m c)) $$ Hpay
  iapply hk
  unfold St
  isplitr; · iexact HR
  isplitl [Hx]; · iexact Hx
  isplitl [Hs Hp]
  · have h := bigSep_mono (M := 𝕄) (s := Finset.univ) fun t (_ : t ∈ (Finset.univ : Finset T)) => preSend_landing (F := F) c t
    rw [bigSep_sep'] at h
    have h : iprop((bigSep Finset.univ (preSend (F := F) c)) ∗ (bigSep Finset.univ fun t : T => if sact t c then landing (F := F) t (tgt t c) else iprop(emp)))
        ⊢ bigSep Finset.univ (sendSt (F := F) c 0 0) := h
    iapply h
    isplitl [Hs] <;> iassumption
  isplitl [Ho]; · iexists _; iexact Ho
  isplitl [Hr]; · iexact Hr
  isplitl [Hc]
  · unfold cpSt; rw [if_pos rfl]; iexact Hc
  iexact Hat

end Cert.Gather
end
-- ==== Proof.Hops.lean ====
/-
The first parts of the body: the last transfers of the device's own block and the hops along z.
-/
module

public import proofs.«01_k».proof.Proof.Blocks
public import proofs.«01_k».proof.Proof.Gen.KernelIdeal.Skeleton

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × SI → ℕ} (c : Dev nD) {hx : xM.IsWhole} {ho : oM.IsWhole}
attribute [local irreducible] dite instDecidableEqBitVec

/-- The transfers of the own block from the fourth on, and the first five hops. -/
theorem part28 {v2 v5 v8 v9 v10 v11 v12 v13 v14 v26} :
    Runs (F := F) c (St m K c 3 0 0 1) (k0_part28 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v11 v12 v13 v14 v26) (fun _ => St m K c 23 5 0 1) := by
  rw [k0_part28_eq_skeleton]
  iterate 5 refine blk c (fun h j => sendX c h j) ?_
  iterate 5 refine hop c (fun h => by
      first | rw [k0_part1_eq_skeleton] | rw [k0_part2_eq_skeleton] | rw [k0_part3_eq_skeleton] | rw [k0_part4_eq_skeleton] | rw [k0_part5_eq_skeleton]
      exact recv c h (blk c (fun g j => pass c h g j) (pass c h h (fin c)))) (fun h j => pass c h h j) ?_
  exact fin c

/-- Hops 6 to 13. -/
theorem part29 {v2 v5 v8 v9 v10 v11 v12 v13 v14 v26 w} :
    Runs (F := F) c (St m K c 23 5 0 1) (k0_part29 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v11 v12 v13 v14 v26 w) (fun _ => St m K c 47 13 0 1) := by
  rw [k0_part29_eq_skeleton]
  iterate 8 refine hop c (fun h => by
      first | rw [k0_part6_eq_skeleton] | rw [k0_part7_eq_skeleton] | rw [k0_part8_eq_skeleton] | rw [k0_part9_eq_skeleton] | rw [k0_part10_eq_skeleton] | rw [k0_part11_eq_skeleton] | rw [k0_part12_eq_skeleton] | rw [k0_part13_eq_skeleton]
      exact recv c h (blk c (fun g j => pass c h g j) (pass c h h (fin c)))) (fun h j => pass c h h j) ?_
  exact fin c

/-- Hops 14 to 22: the last six carry nothing further along z. -/
theorem part30 {v2 v5 v8 v9 v10 v11 v12 v13 v14 v26 w} :
    Runs (F := F) c (St m K c 47 13 0 1) (k0_part30 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v11 v12 v13 v14 v26 w) (fun _ => St m K c 74 22 0 1) := by
  rw [k0_part30_eq_skeleton]
  iterate 3 refine hop c (fun h => by
      first | rw [k0_part14_eq_skeleton] | rw [k0_part15_eq_skeleton] | rw [k0_part16_eq_skeleton]
      exact recv c h (blk c (fun g j => pass c h g j) (pass c h h (fin c)))) (fun h j => pass c h h j) ?_
  iterate 6 refine hop c (fun h => by
      first | rw [k0_part17_eq_skeleton] | rw [k0_part18_eq_skeleton] | rw [k0_part19_eq_skeleton] | rw [k0_part20_eq_skeleton] | rw [k0_part21_eq_skeleton] | rw [k0_part22_eq_skeleton]
      exact recv c h (hole c h (pass c h h (fin c)))) (fun h j => pass c h h j) ?_
  exact fin c

end Cert.Gather
end
-- ==== Proof.Phases.lean ====
/-
The middle parts of the body: the last two hops, the second phase — the two tiles a device lacks of each four passed across — and the third.
-/
module

public import proofs.«01_k».proof.Proof.Blocks
public import proofs.«01_k».proof.Proof.Gen.KernelIdeal.Skeleton

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × SI → ℕ} (c : Dev nD) {hx : xM.IsWhole} {ho : oM.IsWhole}
attribute [local irreducible] dite instDecidableEqBitVec

/-- The last two hops and the start of the second phase. -/
theorem part31 {v2 v5 v8 v9 v10 v11 v12 v13 v14 v26 v39 v52 w} :
    Runs (F := F) c (St m K c 74 22 0 1) (k0_part31 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v11 v12 v13 v14 v26 v39 v52 w) (fun _ => St m K c 83 30 0 1) := by
  rw [k0_part31_eq_skeleton]
  iterate 2 refine hop c (fun h => by
      first | rw [k0_part23_eq_skeleton] | rw [k0_part24_eq_skeleton]
      exact recv c h (hole c h (pass c h h (fin c)))) (fun h j => pass c h h j) ?_
  refine blk c (fun h j => recv c h (pass c h h j)) ?_
  refine blk c (fun h j => recv c h j) ?_
  refine blk c (fun h j => recv c h (pass c h h j)) ?_
  refine blk c (fun h j => recv c h j) ?_
  refine blk c (fun h j => recv c h j) ?_
  refine blk c (fun h j => recv c h (pass c h h j)) ?_
  exact fin c

/-- The second phase, continued. -/
theorem part32 {v2 v5 v8 v11 v12 v39 v52} :
    Runs (F := F) c (St m K c 83 30 0 1) (k0_part32 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v11 v12 v39 v52) (fun _ => St m K c 87 39 0 1) := by
  rw [k0_part32_eq_skeleton]
  refine blk c (fun h j => recv c h j) ?_
  refine blk c (fun h j => recv c h (pass c h h j)) ?_
  refine blk c (fun h j => recv c h (pass c h h j)) ?_
  refine blk c (fun h j => recv c h j) ?_
  refine blk c (fun h j => recv c h (pass c h h j)) ?_
  refine blk c (fun h j => recv c h j) ?_
  refine blk c (fun h j => recv c h j) ?_
  refine blk c (fun h j => recv c h (pass c h h j)) ?_
  refine blk c (fun h j => recv c h j) ?_
  exact fin c

/-- The second phase, continued. -/
theorem part33 {v2 v5 v8 v11 v12 v39 v52 w w'} :
    Runs (F := F) c (St m K c 87 39 0 1) (k0_part33 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v11 v12 v39 v52 w w') (fun _ => St m K c 91 47 0 1) := by
  rw [k0_part33_eq_skeleton]
  refine blk c (fun h j => recv c h (pass c h h j)) ?_
  refine blk c (fun h j => recv c h (pass c h h j)) ?_
  refine blk c (fun h j => recv c h j) ?_
  refine blk c (fun h j => recv c h (pass c h h j)) ?_
  refine blk c (fun h j => recv c h j) ?_
  refine blk c (fun h j => recv c h j) ?_
  refine blk c (fun h j => recv c h (pass c h h j)) ?_
  refine blk c (fun h j => recv c h j) ?_
  exact fin c

/-- The second phase, continued. -/
theorem part34 {v2 v5 v8 v11 v12 v39 v52} :
    Runs (F := F) c (St m K c 91 47 0 1) (k0_part34 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v11 v12 v39 v52) (fun _ => St m K c 96 56 0 1) := by
  rw [k0_part34_eq_skeleton]
  refine blk c (fun h j => recv c h (pass c h h j)) ?_
  refine blk c (fun h j => recv c h (pass c h h j)) ?_
  refine blk c (fun h j => recv c h j) ?_
  refine blk c (fun h j => recv c h (pass c h h j)) ?_
  refine blk c (fun h j => recv c h j) ?_
  refine blk c (fun h j => recv c h j) ?_
  refine blk c (fun h j => recv c h (pass c h h j)) ?_
  refine blk c (fun h j => recv c h j) ?_
  refine blk c (fun h j => recv c h (pass c h h j)) ?_
  exact fin c

/-- The second phase, continued. -/
theorem part35 {v2 v5 v8 v11 v12 v39 v52 w} :
    Runs (F := F) c (St m K c 96 56 0 1) (k0_part35 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v11 v12 v39 v52 w) (fun _ => St m K c 101 65 0 1) := by
  rw [k0_part35_eq_skeleton]
  refine blk c (fun h j => recv c h (pass c h h j)) ?_
  refine blk c (fun h j => recv c h j) ?_
  refine blk c (fun h j => recv c h (pass c h h j)) ?_
  refine blk c (fun h j => recv c h j) ?_
  refine blk c (fun h j => recv c h j) ?_
  refine blk c (fun h j => recv c h (pass c h h j)) ?_
  refine blk c (fun h j => recv c h j) ?_
  refine blk c (fun h j => recv c h (pass c h h j)) ?_
  refine blk c (fun h j => recv c h (pass c h h j)) ?_
  exact fin c

/-- The end of the second phase, the wait for the copy, and the start of the third. -/
theorem part36 {v2 v5 v8 v11 v12 v39 v52 v66 w} :
    Runs (F := F) c (St m K c 101 65 0 1) (k0_part36 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v11 v12 v39 v52 v66 w) (fun _ => St m K c 104 74 0 2) := by
  rw [k0_part36_eq_skeleton]
  refine blk c (fun h j => recv c h j) ?_
  refine blk c (fun h j => recv c h (pass c h h j)) ?_
  refine blk c (fun h j => recv c h j) ?_
  refine blk c (fun h j => recv c h j) ?_
  refine blk c (fun h j => recv c h (pass c h h j)) ?_
  refine blk c (fun h j => recv c h j) ?_
  refine blk c (fun h j => recv c h (pass c h h j)) ?_
  refine copyDone c ?_
  refine blk c (fun h j => recv c h (recv c h j)) ?_
  exact fin c

/-- The third phase, continued. -/
theorem part37 {v5 v8 v11 v66 w} :
    Runs (F := F) c (St m K c 104 74 0 2) (k0_part37 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v5 v8 v11 v66 w) (fun _ => St m K c 104 90 0 2) := by
  rw [k0_part37_eq_skeleton]
  iterate 8 refine blk c (fun h j => recv c h (recv c h j)) ?_
  exact fin c

end Cert.Gather
end
-- ==== Proof.Departs.lean ====
/-
The last parts of the body: the waits for the departures.
-/
module

public import proofs.«01_k».proof.Proof.Blocks
public import proofs.«01_k».proof.Proof.Gen.KernelIdeal.Skeleton

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × SI → ℕ} (c : Dev nD) {hx : xM.IsWhole} {ho : oM.IsWhole}
attribute [local irreducible] dite instDecidableEqBitVec

/-- A device's z coordinate as the program computes it, -/
def w8 (c : Dev nD) : BitVec 32 := Scalar.remsi (Scalar.divsi (Dev.word c) 1#32) 4#32
/-- whether it has a neighbour to the right, -/
def w13 (c : Dev nD) : BitVec 1 := Scalar.cmpi .slt (w8 c) 3#32
/-- and to the left. -/
def w14 (c : Dev nD) : BitVec 1 := Scalar.cmpi .sgt (w8 c) 0#32
/-- A bit as a condition. -/
def on (b : BitVec 1) : BitVec 1 := Scalar.cmpi .ne (Scalar.extui b) 0#32
/-- Whether a tile arrives from `i + 1` devices to the left, -/
def fromL (i : BitVec 32) (c : Dev nD) : BitVec 1 := Scalar.cmpi .sgt (w8 c) i
/-- or to the right; -/
def fromR (i : BitVec 32) (c : Dev nD) : BitVec 1 := Scalar.cmpi .sgt (Scalar.subi 3#32 (w8 c)) i
/-- the conditions of the departures: of the own block rightward and leftward, -/
def goR (c : Dev nD) : BitVec 1 := on (w13 c)
/-- The condition of the own block's departure leftward. -/
def goL (c : Dev nD) : BitVec 1 := on (w14 c)
/-- of a received tile further along z, -/
def onR (i : BitVec 32) (c : Dev nD) : BitVec 1 := on (Scalar.andi (fromL i c) (w13 c))
/-- The condition of a received tile's departure further leftward. -/
def onL (i : BitVec 32) (c : Dev nD) : BitVec 1 := on (Scalar.andi (fromR i c) (w14 c))
/-- and of one across the columns. -/
def overR (i : BitVec 32) (c : Dev nD) : BitVec 1 := on (fromL i c)
/-- The condition of the departure across the columns of a tile from the right. -/
def overL (i : BitVec 32) (c : Dev nD) : BitVec 1 := on (fromR i c)

/-- The end of the third phase, and the first departures. -/
theorem part38 {v5 v11 v66 w w'} :
    Runs (F := F) c (St m K c 104 90 0 2) (k0_part38 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v5 (w8 c) v11 (w13 c) (w14 c) v66 w w') (fun r => iprop(⌜r = 3#32⌝ ∗ St m K c 104 96 12 2)) := by
  rw [k0_part38_eq_skeleton]
  iterate 3 refine blk c (fun h j => recv c h (recv c h j)) ?_
  iterate 4
    refine blk (cond := goR) c (fun h j => left c h j) ?_
    refine blk (cond := goL) c (fun h j => left c h j) ?_
  refine blk (cond := onR 0#32) c (fun h j => left c h j) ?_
  refine blk (cond := overR 0#32) c (fun h j => left c h (left c h (left c h j))) ?_
  exact finV c

/-- Departures, continued. -/
theorem part39 :
    Runs (F := F) c (St m K c 104 96 12 2) (k0_part39 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 (w8 c) (w13 c) (w14 c) 3#32) (fun _ => St m K c 104 96 32 2) := by
  rw [k0_part39_eq_skeleton]
  refine blk (cond := onL 0#32) c (fun h j => left c h j) ?_
  refine blk (cond := overL 0#32) c (fun h j => left c h (left c h (left c h j))) ?_
  refine blk (cond := onR 0#32) c (fun h j => left c h j) ?_
  refine blk (cond := overR 0#32) c (fun h j => left c h (left c h (left c h j))) ?_
  refine blk (cond := onL 0#32) c (fun h j => left c h j) ?_
  refine blk (cond := overL 0#32) c (fun h j => left c h (left c h (left c h j))) ?_
  refine blk (cond := onR 0#32) c (fun h j => left c h j) ?_
  refine blk (cond := overR 0#32) c (fun h j => left c h (left c h (left c h j))) ?_
  refine blk (cond := onL 0#32) c (fun h j => left c h j) ?_
  refine blk (cond := overL 0#32) c (fun h j => left c h (left c h (left c h j))) ?_
  exact fin c

/-- Departures, continued. -/
theorem part40 :
    Runs (F := F) c (St m K c 104 96 32 2) (k0_part40 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 (w8 c) (w13 c) (w14 c)) (fun r => iprop(⌜r = 3#32⌝ ∗ St m K c 104 96 52 2)) := by
  rw [k0_part40_eq_skeleton]
  refine blk (cond := onR 0#32) c (fun h j => left c h j) ?_
  refine blk (cond := overR 0#32) c (fun h j => left c h (left c h (left c h j))) ?_
  refine blk (cond := onL 0#32) c (fun h j => left c h j) ?_
  refine blk (cond := overL 0#32) c (fun h j => left c h (left c h (left c h j))) ?_
  refine blk (cond := onR 1#32) c (fun h j => left c h j) ?_
  refine blk (cond := overR 1#32) c (fun h j => left c h (left c h (left c h j))) ?_
  refine blk (cond := onL 1#32) c (fun h j => left c h j) ?_
  refine blk (cond := overL 1#32) c (fun h j => left c h (left c h (left c h j))) ?_
  refine blk (cond := onR 1#32) c (fun h j => left c h j) ?_
  refine blk (cond := overR 1#32) c (fun h j => left c h (left c h (left c h j))) ?_
  exact finV c

/-- Departures, continued. -/
theorem part41 :
    Runs (F := F) c (St m K c 104 96 52 2) (k0_part41 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 (w8 c) (w13 c) (w14 c) 3#32) (fun _ => St m K c 104 96 72 2) := by
  rw [k0_part41_eq_skeleton]
  refine blk (cond := onL 1#32) c (fun h j => left c h j) ?_
  refine blk (cond := overL 1#32) c (fun h j => left c h (left c h (left c h j))) ?_
  refine blk (cond := onR 1#32) c (fun h j => left c h j) ?_
  refine blk (cond := overR 1#32) c (fun h j => left c h (left c h (left c h j))) ?_
  refine blk (cond := onL 1#32) c (fun h j => left c h j) ?_
  refine blk (cond := overL 1#32) c (fun h j => left c h (left c h (left c h j))) ?_
  refine blk (cond := onR 1#32) c (fun h j => left c h j) ?_
  refine blk (cond := overR 1#32) c (fun h j => left c h (left c h (left c h j))) ?_
  refine blk (cond := onL 1#32) c (fun h j => left c h j) ?_
  refine blk (cond := overL 1#32) c (fun h j => left c h (left c h (left c h j))) ?_
  exact fin c

/-- Departures, continued: none is for a transfer beyond the line's end. -/
theorem part42 :
    Runs (F := F) c (St m K c 104 96 72 2) (k0_part42 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 (w8 c) (w13 c) (w14 c)) (fun r => iprop(⌜r = 3#32⌝ ∗ St m K c 104 96 92 2)) := by
  rw [k0_part42_eq_skeleton]
  refine gap (cond := onR 2#32) c ?_
  refine blk (cond := overR 2#32) c (fun h j => left c h (left c h (left c h j))) ?_
  refine gap (cond := onL 2#32) c ?_
  refine blk (cond := overL 2#32) c (fun h j => left c h (left c h (left c h j))) ?_
  refine gap (cond := onR 2#32) c ?_
  refine blk (cond := overR 2#32) c (fun h j => left c h (left c h (left c h j))) ?_
  refine gap (cond := onL 2#32) c ?_
  refine blk (cond := overL 2#32) c (fun h j => left c h (left c h (left c h j))) ?_
  refine gap (cond := onR 2#32) c ?_
  refine blk (cond := overR 2#32) c (fun h j => left c h (left c h (left c h j))) ?_
  exact finV c

end Cert.Gather
end
-- ==== Proof.Body.lean ====
/-
The whole body: the barrier, the transfers, the waits for the departures.
-/
module

public import proofs.«01_k».proof.Proof.Bar
public import proofs.«01_k».proof.Proof.Hops
public import proofs.«01_k».proof.Proof.Phases
public import proofs.«01_k».proof.Proof.Departs
public import proofs.«01_k».proof.Proof.Gen.KernelIdeal.Points
public import proofs.«01_k».proof.Proof.Gen.KernelIdeal.Skeleton

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × SI → ℕ} (c : Dev nD) {hx : xM.IsWhole} {ho : oM.IsWhole}
attribute [local irreducible] dite instDecidableEqBitVec

/-- The barrier, the start of the copy, the first three transfers. -/
theorem part27 {v2 v5 v8 v9 v10 v12 v13 v14 v26 v69 v70} :
    Runs (F := F) c (BSt m K c 0) (k0_part27 xM hx oM ho cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v12 v13 v14 v26 (SemArray.scalar (sig.barrier 0 rfl)) v69 v70) (fun _ => St m K c 3 0 0 1) := by
  rw [k0_part27_eq_skeleton]
  have d1 : ∀ d, (⟨k0_dev1 d, k0_dev1_lt d⟩ : Dev nD) = nb 0 d := by decide +kernel
  have d2 : ∀ d, (⟨k0_dev2 d, k0_dev2_lt d⟩ : Dev nD) = nb 1 d := by decide +kernel
  have d3 : ∀ d h, (⟨k0_dev3 d, k0_dev3_lt d h⟩ : Dev nD) = nb 2 d := by decide +kernel
  have d4 : ∀ d h, (⟨k0_dev4 d, k0_dev4_lt d h⟩ : Dev nD) = nb 3 d := by decide +kernel
  have a3 : ∀ d, k0_cond1 d = 1#1 → bact 2 d := by decide +kernel
  have a4 : ∀ d, k0_cond2 d = 1#1 → bact 3 d := by decide +kernel
  refine signal c 0 trivial (d1 c) rfl ?_
  refine signal c 1 trivial (d2 c) rfl ?_
  refine blkB c 2 (fun h j => signal c 2 (a3 c h) (d3 c h) rfl j) ?_
  refine blkB c 3 (fun h j => signal c 3 (a4 c h) (d4 c h) rfl j) ?_
  refine barWait c rfl ?_
  refine copy c ?_
  iterate 3 refine blk c (fun h j => sendX c h j) ?_
  exact fin c

set_option maxHeartbeats 4000000 in
/-- The body on a device, from before the barrier to the end. -/
theorem body : Runs (F := F) c (BSt m K c 0) (bodyAt0 (F := F) t0_0) (fun _ => St m K c 104 96 104 2) := by
  unfold bodyAt0
  rw [cc0_body_eq_skeleton]
  refine callV c (by rw [k0_part25_eq_skeleton]; exact devId c (finV c)) ?_
  refine callV c (by rw [k0_part26_eq_skeleton]; exact finV c) ?_
  refine call c (part27 c) fun _ => ?_
  refine call c (part28 c) fun _ => ?_
  refine call c (part29 c) fun _ => ?_
  refine call c (part30 c) fun _ => ?_
  refine call c (part31 c) fun _ => ?_
  refine call c (part32 c) fun _ => ?_
  refine call c (part33 c) fun _ => ?_
  refine call c (part34 c) fun _ => ?_
  refine call c (part35 c) fun _ => ?_
  refine call c (part36 c) fun _ => ?_
  refine call c (part37 c) fun _ => ?_
  refine callV c (part38 c) ?_
  refine call c (part39 c) fun _ => ?_
  refine callV c (part40 c) ?_
  refine call c (part41 c) fun _ => ?_
  refine callV c (part42 c) ?_
  refine gap (cond := onL 2#32) c ?_
  refine blk (cond := overL 2#32) c (fun h j => left c h (left c h (left c h j))) ?_
  refine gap (cond := onR 2#32) c ?_
  refine blk (cond := overR 2#32) c (fun h j => left c h (left c h (left c h j))) ?_
  refine gap (cond := onL 2#32) c ?_
  refine blk (cond := overL 2#32) c (fun h j => left c h (left c h (left c h j))) ?_
  exact fin c

end Cert.Gather
end
-- ==== Proof.Close.lean ====
/-
The end of a device's run: every cell is closed, its counter read at zero, and what is left is the result, whole.
-/
module

public import proofs.«01_k».proof.Proof.Body

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × SI → ℕ} (c : Dev nD)

/-! ## A family over a device's cells -/

/-- A device's DMA semaphores are their uses. -/
def useEquiv : T ⊕ T ⊕ Unit ≃ DmaSem sig := ⟨qOf, useOf, useOf_qOf, qOf_useOf⟩
/-- A device's cells: the barrier's and one for each use of a DMA semaphore. -/
def siEquiv : Unit ⊕ T ⊕ T ⊕ Unit ≃ SI where
  toFun | .inl _ => none | .inr u => some (qOf u)
  invFun | none => .inl () | some q => .inr (useOf q)
  left_inv | .inl _ => rfl | .inr u => congrArg Sum.inr (useOf_qOf u)
  right_inv | none => rfl | some q => congrArg some (qOf_useOf q)

omit [FloatOps F] in
/-- A family over one index is its member. -/
theorem bigSep_one (Φ : Unit → sProp 𝕄) : bigSep Finset.univ Φ = Φ () := by
  rw [show (Finset.univ : Finset Unit) = {()} from rfl, bigSep_singleton]

omit [FloatOps F] in
/-- A family over the DMA semaphores, by use. -/
theorem over_dma (Φ : DmaSem sig → sProp 𝕄) : bigSep Finset.univ Φ
    = iprop((bigSep Finset.univ fun t : T => Φ (sq t)) ∗ (bigSep Finset.univ fun t : T => Φ (rq t)) ∗ Φ cq) := by
  rw [bigSep_univ_equiv useEquiv, bigSep_univ_sum, bigSep_univ_sum, bigSep_one]; rfl
omit [FloatOps F] in
/-- A family over a device's cells, by use. -/
theorem over_si (Φ : SI → sProp 𝕄) : bigSep Finset.univ Φ
    = iprop(Φ none ∗ (bigSep Finset.univ fun t : T => Φ (some (sq t))) ∗ (bigSep Finset.univ fun t : T => Φ (some (rq t))) ∗ Φ (some cq)) := by
  rw [bigSep_univ_equiv siEquiv, bigSep_univ_sum, bigSep_one, bigSep_univ_sum, bigSep_univ_sum, bigSep_one]; rfl

/-! ## Closing -/

/-- A DMA cell past its round closes; -/
theorem close_used (q : DmaSem sig) : iprop(records (F := F) m K ∗ atPos ER (dCell q c) 1 ∅ 0) ⊢ |={Set.univ}=> semVal (dCell q c) 0 := by
  iintro ⟨#HR, Hat⟩
  ihave #HI := (inv_at m K c q) $$ HR
  iapply (Rounds.cell_close ER (sched (F := F) m) (Set.mem_univ (K (c, some q))) (fun h => h) (R := 1) (duties_later m _))
  isplitr; · iexact HI
  iexact Hat
/-- and one with no duty in use. -/
theorem close_idle (u : T ⊕ T ⊕ Unit) (h : ¬ act (.inr u) c) :
    iprop(records (F := F) m K ∗ atPos ER (dCell (qOf u) c) 0 ∅ 0) ⊢ |={Set.univ}=> semVal (dCell (qOf u) c) 0 := by
  iintro ⟨#HR, Hat⟩
  ihave #HI := (inv_at m K c (qOf u)) $$ HR
  iapply (Rounds.cell_close ER (sched (F := F) m) (Set.mem_univ (K (c, some (qOf u)))) (fun h => h) (R := 0) (duties_idle m u c h))
  isplitr; · iexact HI
  iexact Hat
/-- The barrier cell closes at zero. -/
theorem close_bar : iprop(records (F := F) m K ∗ atPos ER (barCell c) 1 ∅ 0) ⊢ |={Set.univ}=> semVal (barCell c) 0 := by
  iintro ⟨#HR, Hat⟩
  ihave #HI := (inv_bar m K c) $$ HR
  iapply (Rounds.cell_close ER (sched (F := F) m) (Set.mem_univ (K (c, none))) (fun h => h) (R := 1) (duties_later m _))
  isplitr; · iexact HI
  iexact Hat

/-- At the end a send cell closes at zero, whether its transfer was sent or not; -/
theorem close_send (t : T) : iprop(records (F := F) m K ∗ sendSt (F := F) c 104 104 t) ⊢ |={Set.univ}=> semVal (dCell (sq t) c) 0 := by
  unfold sendSt
  by_cases h : sact t c
  · rw [if_pos h, if_neg (Nat.not_le.mpr (spos_lt t)), if_neg (Nat.not_le.mpr (wpos_lt t))]
    exact close_used c (sq t)
  · rw [if_neg h]; exact close_idle c (.inl t) h
/-- A received tile, held when there is one. -/
def rd' (m : (ℓ : Loc nD τ sig) → Buf (Elt F) ℓ) (c : Dev nD) (t : T) : sProp 𝕄 := if ract t c then rd m c t else iprop(emp)
/-- so does a receive cell, with the tile that arrived, if one did. -/
theorem close_recv (t : T) : iprop(records (F := F) m K ∗ recvSt (F := F) m c 96 t) ⊢ |={Set.univ}=> iprop(rd' m c t ∗ semVal (dCell (rq t) c) 0) := by
  unfold recvSt rd'
  by_cases h : ract t c
  · rw [if_pos h, if_neg (Nat.not_le.mpr (rpos_lt t)), if_pos h]
    unfold recvd
    iintro ⟨#HR, Hd, Hat⟩
    imod (close_used (m := m) (K := K) c (rq t)) $$ [Hat] with Hz
    · isplitr; · iexact HR
      iexact Hat
    imodintro
    isplitl [Hd] <;> iassumption
  · rw [if_neg h, if_neg h]
    iintro ⟨#HR, Hat⟩
    imod (close_idle (m := m) (K := K) c (.inr (.inl t)) h) $$ [Hat] with Hz
    · isplitr; · iexact HR
      iexact Hat
    imodintro
    isplitr; · iempintro
    iexact Hz

/-- What a device holds of memory at the end: its block of the operand, and the result. -/
def hold (m : (ℓ : Loc nD τ sig) → Buf (Elt F) ℓ) (c : Dev nD) : sProp 𝕄 :=
  iprop(xPts m c ∗ ownPts c (G m c) ∗ bigSep Finset.univ (rd' m c))
/-- Every counter of a device at zero. -/
def zeros (c : Dev nD) : sProp 𝕄 := iprop(semVal (barCell c) 0 ∗ bigSep Finset.univ fun q : DmaSem sig => semVal (dCell q c) 0)

/-- All send cells close at zero, -/
theorem close_sends : iprop(records (F := F) m K ∗ bigSep Finset.univ (sendSt (F := F) c 104 104))
    ⊢ |={Set.univ}=> bigSep Finset.univ fun t : T => semVal (dCell (sq t) c) 0 :=
  (bigSep_with_persistent (R := records (F := F) m K) fun t _ => close_send c t).trans (bigSep_fupd _ _)
/-- and all receive cells, with the tiles that arrived. -/
theorem close_recvs : iprop(records (F := F) m K ∗ bigSep Finset.univ (recvSt (F := F) m c 96))
    ⊢ |={Set.univ}=> iprop((bigSep Finset.univ (rd' m c)) ∗ bigSep Finset.univ fun t : T => semVal (dCell (rq t) c) 0) :=
  ((bigSep_with_persistent (R := records (F := F) m K) fun t _ => close_recv c t).trans (bigSep_fupd _ _)).trans
    (BI.fupd_mono (Entails.of_eq (bigSep_sep' _ _ _)))

/-- The holdings at the end, closed. -/
theorem close_all : St (F := F) m K c 104 96 104 2
    ⊢ |={Set.univ}=> iprop((hold m c ∗ zeros c) ∗ ∃ W, owes (c : Thread nD τ) 0 W) := by
  have e : O c 104 = 0 := owed_end c
  have e2 : cpSt (F := F) m c 2 = copied m c := by unfold cpSt; rw [if_neg (by decide), if_neg (by decide)]
  unfold St
  rw [e, e2]
  unfold copied hold zeros
  rw [over_dma]
  iintro ⟨#HR, Hx, Hs, Ho, Hr, ⟨Hc, Hq⟩, Hb⟩
  imod (close_sends (m := m) (K := K) c) $$ [Hs] with Hs
  · isplitr; · iexact HR
    iexact Hs
  imod (close_recvs (m := m) (K := K) c) $$ [Hr] with ⟨Hr, Hrz⟩
  · isplitr; · iexact HR
    iexact Hr
  imod (close_used (m := m) (K := K) c cq) $$ [Hq] with Hq
  · isplitr; · iexact HR
    iexact Hq
  imod (close_bar (m := m) (K := K) c) $$ [Hb] with Hb
  · isplitr; · iexact HR
    iexact Hb
  imodintro
  isplitr [Ho]
  · isplitl [Hx Hc Hr]
    · isplitl [Hx]; · iexact Hx
      isplitl [Hc]; · iexact Hc
      iexact Hr
    isplitl [Hb]; · iexact Hb
    isplitl [Hs]; · iexact Hs
    isplitl [Hrz]; · iexact Hrz
    iexact Hq
  iexact Ho

/-- The body, from before the barrier to every cell closed. -/
theorem body_closed : BSt (F := F) m K c 0
    ⊢ WP c (bodyAt0 (F := F) t0_0) fun _ => iprop((hold m c ∗ zeros c) ∗ ∃ W, owes (c : Thread nD τ) 0 W) := by
  have h := body (F := F) (m := m) (K := K) c
  rw [runs] at h
  exact (h.trans (wp_mono _ _ _ fun _ => close_all c)).trans (wp_fupd _ _ _ _ _)

end Cert.Gather
end
-- ==== Proof.Start.lean ====
/-
The launch of the all-gather: the ghost state minted for every device's cells, the tokens dealt to the devices that pay
with them, the credit for what the devices owe, and each device's memory cut into what the protocol hands around.
-/
module

public import proofs.«01_k».proof.Proof.Close
public import proofs.«01_k».proof.Proof.Gen.KernelIdeal.Launch

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- The kernel's own semaphores: the DMA semaphores. -/
abbrev osem : DmaSem sig → SemLoc sig := fun q => .dma q
/-- The launch's own semaphores are the kernel's DMA semaphores. -/
theorem ownSemFacts : Pipeline.OwnSemFacts cfg0.spec osem := by decide +kernel

/-- Different cells of a device have different semaphores, -/
theorem semOf_injective : Function.Injective semOf
  | none, none, _ => rfl
  | some _, some _, h => by cases h; rfl
/-- and all cells are different. -/
theorem kcell_injective : Function.Injective (kcell : Dev nD × SI → GSem nD τ sig) := by
  rintro ⟨c, k⟩ ⟨c', k'⟩ h
  have h1 : c = c' := congrArg (fun g : GSem nD τ sig => g.1.1) h
  have h2 : k = k' := semOf_injective (congrArg Prod.snd h)
  rw [h1, h2]
/-- All cells of all devices. -/
def gCells : Finset (GSem nD τ sig) := Finset.univ.map ⟨kcell, kcell_injective⟩
/-- The cell, the round and the name of a duty. -/
abbrev tokOf (cd : Dev nD × D) : GSem nD τ sig × ℕ × D := (dutyCell cd.2 cd.1, 0, cd.2)
/-- Different duties have different tokens. -/
theorem tokOf_injective : Function.Injective tokOf := by
  rintro ⟨c, d⟩ ⟨c', d'⟩ h
  have h1 : c = c' := congrArg (fun x : GSem nD τ sig × ℕ × D => x.1.1.1) h
  have h2 : d = d' := congrArg (fun x : GSem nD τ sig × ℕ × D => x.2.2) h
  rw [h1, h2]
/-- The tokens of all duties. -/
def gToks : Finset (GSem nD τ sig × ℕ × D) := Finset.univ.map ⟨tokOf, tokOf_injective⟩

/-- The ghost state at the launch. -/
def u₀ : UU := (initOf (Pipeline.cells cfgs cellOf_inj) (Pipeline.launchToks cfgs cellOf_inj), initOf gCells gToks)

/-- The tokens of the duties of a device's own cells. -/
def ownToks (c : Dev nD) : sProp 𝕄 :=
  iprop((bigSep Finset.univ fun δ : Fin 4 => dutyTok ER (barCell c) 0 (.inl δ))
    ∗ (bigSep Finset.univ fun t : T => dutyTok ER (dCell (sq t) c) 0 (.inr (.inl t)))
    ∗ (bigSep Finset.univ fun t : T => dutyTok ER (dCell (rq t) c) 0 (.inr (.inr (.inl t))))
    ∗ dutyTok ER (dCell cq c) 0 (.inr (.inr (.inr ()))))
/-- The tokens of the duties a device pays. -/
def payToks (c : Dev nD) : sProp 𝕄 :=
  iprop((bigSep Finset.univ fun δ : Fin 4 => dutyTok ER (barCell (nb δ c)) 0 (.inl δ))
    ∗ (bigSep Finset.univ fun t : T => dutyTok ER (dCell (sq t) c) 0 (.inr (.inl t)))
    ∗ (bigSep Finset.univ fun t : T => dutyTok ER (dCell (rq t) (tgt t c)) 0 (.inr (.inr (.inl t))))
    ∗ dutyTok ER (dCell cq c) 0 (.inr (.inr (.inr ()))))

/-- What the launch deals a device; -/
def dealt (c : Dev nD) : sProp 𝕄 :=
  iprop((bigSep Finset.univ fun k : SI => roundState ER (sched (F := F) m) (kcell (c, k)) 0)
    ∗ (bigSep Finset.univ fun k : SI => atPos ER (kcell (c, k)) 0 ∅ 0)
    ∗ (bigSep Finset.univ fun k : SI => reached ER (kcell (c, k)) 0) ∗ ownToks c)
/-- every cell's invariant, and that its round 0 is reached; -/
def known (K : Dev nD × SI → ℕ) : sProp 𝕄 :=
  iprop((bigSep Finset.univ fun ck : Dev nD × SI => cellInv ER (sched (F := F) m) (K ck) (kcell ck))
    ∗ bigSep Finset.univ fun ck : Dev nD × SI => reached ER (kcell ck) 0)
instance known_persistent (K : Dev nD × SI → ℕ) : BI.Persistent (known (F := F) m K) := by unfold known; infer_instance
/-- and what a device has of it once all cells are set up. -/
def dealt' (c : Dev nD) : sProp 𝕄 :=
  iprop(∃ K, known (F := F) m K ∗ (bigSep Finset.univ fun k : SI => atPos ER (kcell (c, k)) 0 ∅ 0) ∗ payToks c)

omit [FloatOps F] in
/-- The ghost state of the rounds is what every device is dealt. -/
theorem fund_all : BI.own (ER (initOf gCells gToks)) ⊢ (|==> bigSep Finset.univ (dealt (F := F) m) : sProp 𝕄) := by
  have hX (Φ : GSem nD τ sig → sProp 𝕄) : bigSep gCells Φ = bigSep Finset.univ fun c : Dev nD => bigSep Finset.univ fun k : SI => Φ (kcell (c, k)) := by
    unfold gCells; rw [bigSep_map, bigSep_univ_prod]; rfl
  have hT : bigSep gToks (fun x => (dutyTok ER x.1 x.2.1 x.2.2 : sProp 𝕄)) = bigSep Finset.univ fun c : Dev nD => ownToks c := by
    unfold gToks; rw [bigSep_map, bigSep_univ_prod]
    exact bigSep_congr fun c _ => by
      unfold ownToks; rw [bigSep_univ_sum, bigSep_univ_sum, bigSep_univ_sum, bigSep_one]; rfl
  iintro HX
  imod (Rounds.fund ER (sched (F := F) m) gCells gToks) $$ HX with ⟨Hst, Hr, Hat, Htok⟩
  imodintro
  ihave Hst' := (Entails.of_eq (hX fun g => roundState ER (sched (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

omit [FloatOps F] in
/-- The barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
omit [FloatOps F] in
/-- A device's counters, all at zero, are those of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : SI => semVal (kcell (c, k)) 0 : sProp 𝕄) := by
  unfold Pipeline.ownSems0
  rw [unscopedSems0_eq, over_si, over_dma]
  iintro ⟨⟨HS, HR, HC⟩, HB⟩
  isplitl [HB]; · iexact HB
  isplitl [HS]; · iexact HS
  isplitl [HR]; · iexact HR
  iexact HC

omit [FloatOps F] in
/-- A device's counters and what it was dealt become its cells' invariants, with its places in the rounds and its tokens. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : SI => iprop(∃ κ : ℕ, cellInv ER (sched (F := F) m) κ (kcell (c, k))))
          ∗ (bigSep Finset.univ fun k : SI => atPos ER (kcell (c, k)) 0 ∅ 0)
          ∗ (bigSep Finset.univ fun k : SI => reached ER (kcell (c, k)) 0) ∗ ownToks c) := by
  unfold dealt
  iintro ⟨Hos, Hus, Hst, H⟩
  ihave Hv := (sems0_eq (F := F) c) $$ [Hos Hus]
  · isplitl [Hos] <;> iassumption
  imod (show iprop((bigSep Finset.univ fun k : SI => semVal (kcell (c, k)) 0) ∗ bigSep Finset.univ fun k : SI => roundState ER (sched (F := F) m) (kcell (c, k)) 0)
      ⊢ (|={Set.univ}=> bigSep Finset.univ fun k => iprop(∃ κ : ℕ, cellInv ER (sched (F := F) m) κ (kcell (c, k))) : sProp 𝕄) from by
        rw [← bigSep_sep']
        exact (bigSep_mono fun k _ => (Rounds.body_intro ER (sched (F := F) m) (kcell (c, k))).trans inv_alloc).trans (bigSep_fupd _ _)) $$ [Hv Hst] with Hinv
  · isplitl [Hv] <;> iassumption
  imodintro
  isplitl [Hinv]; · iexact Hinv
  iexact H

omit [FloatOps F] in
/-- A family over the devices dealt round, each member along a permutation of its own. -/
theorem round {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_univ_comm (Φ := fun (c : Dev nD) i => Φ i (e i c))]
  exact bigSep_congr fun i _ => bigSep_univ_equiv (e i) (Φ i)
omit [FloatOps F] in
/-- The tokens of every device's own duties are those of the duties that every device pays. -/
theorem toks_around : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep',
    round nbEquiv fun δ c => (dutyTok ER (barCell c) 0 (.inl δ) : sProp 𝕄),
    round tgtEquiv fun t c => (dutyTok ER (dCell (rq t) c) 0 (.inr (.inr (.inl t))) : sProp 𝕄)]
  rfl

omit [FloatOps F] in
/-- What is known of all cells, with a device's places and tokens, is what the device has of the set-up. -/
theorem dealt_intro (K : Dev nD × SI → ℕ) (c : Dev nD) :
    iprop(known (F := F) m K ∗ ((bigSep Finset.univ fun k : SI => atPos ER (kcell (c, k)) 0 ∅ 0) ∗ payToks c)) ⊢ dealt' m c := by
  unfold dealt'
  iintro H
  iexists K; iexact H

omit [FloatOps F] in
/-- What is set up device by device gives each device the knowledge of all cells and the tokens it pays with. -/
theorem regroup :
    (bigSep Finset.univ fun c : Dev nD => iprop((bigSep Finset.univ fun k : SI => iprop(∃ κ : ℕ, cellInv ER (sched (F := F) m) κ (kcell (c, k))))
          ∗ (bigSep Finset.univ fun k : SI => atPos ER (kcell (c, k)) 0 ∅ 0)
          ∗ (bigSep Finset.univ fun k : SI => reached ER (kcell (c, k)) 0) ∗ ownToks c) : sProp 𝕄)
      ⊢ bigSep Finset.univ (dealt' m) := by
  rw [bigSep_sep', bigSep_sep', bigSep_sep', ← bigSep_univ_prod (fun ck : Dev nD × SI => iprop(∃ κ : ℕ, cellInv ER (sched (F := F) m) κ (kcell ck))),
    ← bigSep_univ_prod (fun ck : Dev nD × SI => (reached ER (kcell ck) 0 : sProp 𝕄)), toks_around]
  iintro ⟨HI, Hat, #HR, Htk⟩
  ihave HK := (BI.bigSep_exists_pi Finset.univ (fun (ck : Dev nD × SI) (κ : ℕ) => (cellInv ER (sched (F := F) m) κ (kcell ck) : sProp 𝕄))) $$ HI
  icases HK with ⟨%K, #HI⟩
  iapply (bigSep_with_persistent (R := known (F := F) m K) fun c _ => dealt_intro m K c)
  isplitr
  · unfold known; isplitl; · iexact HI
    iexact HR
  · iapply (Entails.of_eq (bigSep_sep' Finset.univ (fun c : Dev nD => bigSep Finset.univ fun k : SI => (atPos ER (kcell (c, k)) 0 ∅ 0 : sProp 𝕄)) payToks).symm)
    isplitl [Hat]; · iexact Hat
    iexact Htk

omit [FloatOps F] in
/-- The global step: every device's semaphores become cells at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (dealt' m) :=
  ((bigSep_mono fun c _ => core_alloc m c).trans (bigSep_fupd _ _)).trans (BI.fupd_mono (regroup m))

/-! ## The launch credit -/

/-- What a device owes at launch: the arrival of its transfers, and its signals. -/
def owed₀ (c : Dev nD) : CellTallies nD τ sig Unit := O c 0 + OB c 0

/-- Equal DMA cells have equal semaphores and devices. -/
theorem dCell_inj {q q' : DmaSem sig} {c c' : Dev nD} (h : dCell q c = dCell q' c') : q = q' ∧ c = c' := by
  refine ⟨?_, congrArg (fun g : GSem nD τ sig => g.1.1) h⟩
  have : (SemLoc.dma q : SemLoc sig) = .dma q' := congrArg Prod.snd h
  injection this
/-- Equal receive semaphores belong to one transfer. -/
theorem rq_inj {t t' : T} (h : rq t = rq t') : t = t' := by
  have := useOf_rq t; rw [h, useOf_rq] at this
  injection this with this; injection this with this; exact this.symm
/-- A DMA cell is no barrier cell. -/
theorem dma_ne_bar (q : DmaSem sig) (c c' : Dev nD) : dCell q c ≠ barCell c' := fun h => by
  have : (SemLoc.dma q : SemLoc sig) = .reg barS := congrArg Prod.snd h
  cases this

/-- What a device owes a receive cell: the transfer, if it is the one that sends it. -/
theorem owed_recv (d : Dev nD) (t : T) (c : Dev nD) : owed₀ d (dCell (rq t) c) () = if sact t d ∧ tgt t d = c then N else 0 := by
  unfold owed₀ O OB
  rw [Pi.add_apply, Finsupp.add_apply, Finset.sum_apply, Finsupp.finset_sum_apply, Finset.sum_apply, Finsupp.finset_sum_apply]
  rw [Finset.sum_eq_zero (s := (Finset.univ : Finset (Fin 4))) fun δ _ => by
    unfold owedB1
    split
    · rw [tallyAt_ne_cell (dma_ne_bar _ _ _)]; rfl
    · rfl]
  rw [add_zero, Finset.sum_eq_single t]
  · unfold owed1
    by_cases h : sact t d
    · rw [if_pos ⟨h, Nat.zero_le _⟩, tallyAt_apply]
      by_cases hc : tgt t d = c
      · subst hc; rw [if_pos ⟨rfl, rfl⟩, if_pos ⟨h, rfl⟩]
      · rw [if_neg fun h' => hc (dCell_inj h'.1).2.symm, if_neg fun h' => hc h'.2]
    · rw [if_neg fun h' => h h'.1, if_neg fun h' => h h'.1]; rfl
  · intro t' _ ht'
    unfold owed1
    split
    · rw [tallyAt_ne_cell fun h => ht' (rq_inj (dCell_inj h).1).symm]; rfl
    · rfl
  · intro h; exact absurd (Finset.mem_univ t) h
/-- What a device owes a barrier cell: the signals it makes there. -/
theorem owed_bar (d c : Dev nD) : owed₀ d (barCell c) () = ∑ δ : Fin 4, if bact δ d ∧ nb δ d = c then 1 else 0 := by
  unfold owed₀ O OB
  rw [Pi.add_apply, Finsupp.add_apply, Finset.sum_apply, Finsupp.finset_sum_apply, Finset.sum_apply, Finsupp.finset_sum_apply]
  rw [Finset.sum_eq_zero (s := (Finset.univ : Finset T)) fun t _ => by
    unfold owed1
    split
    · rw [tallyAt_ne_cell (dma_ne_bar _ _ _).symm]; rfl
    · rfl]
  rw [zero_add]
  refine Finset.sum_congr rfl fun δ _ => ?_
  unfold owedB1
  by_cases h : bact δ d
  · rw [if_pos ⟨h, Nat.zero_le _⟩, tallyAt_apply]
    by_cases hc : nb δ d = c
    · subst hc; rw [if_pos ⟨rfl, rfl⟩, if_pos ⟨h, rfl⟩]
    · rw [if_neg fun h' => hc (congrArg (fun g : GSem nD τ sig => g.1.1) h'.1).symm, if_neg fun h' => hc h'.2]
  · rw [if_neg fun h' => h h'.1, if_neg fun h' => h h'.1]; rfl

/-- All devices together owe a receive cell in use one transfer, -/
theorem launch_recv (t : T) (c : Dev nD) (h : ract t c) :
    tallyOn (dCell (rq t) c) (launchCredit (Pipeline.owing owed₀) 0 (dCell (rq t) c)) = (tallyAt (dCell (rq t) c) () N : CellTallies nD τ sig Unit) := by
  unfold tallyAt; refine congrArg _ (Finsupp.ext fun u => ?_); cases u
  rw [Pipeline.launchCredit_owing, Finsupp.single_eq_same, Finset.sum_congr rfl fun d _ => owed_recv d t c, Finset.sum_eq_single (src t c)]
  · exact if_pos ⟨(sact_src t c).mpr h, tgt_src t c⟩
  · intro d _ hd
    exact if_neg fun h' => hd (by rw [← h'.2, src_tgt])
  · intro h; exact absurd (Finset.mem_univ _) h
/-- and a barrier cell the signals in use. -/
theorem launch_bar (c : Dev nD) :
    tallyOn (barCell c) (launchCredit (Pipeline.owing owed₀) 0 (barCell c)) = (tallyAt (barCell c) () (bars c).card : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm, Finset.card_filter]
  refine Finset.sum_congr rfl fun δ _ => ?_
  rw [Finset.sum_eq_single (nb (opp δ) c)]
  · have e : nb δ (nb (opp δ) c) = c := nb_opp' δ c
    simp only [e, and_true]; rfl
  · intro d _ hd
    exact if_neg fun h' => hd (by rw [← h'.2, nb_opp])
  · intro h; exact absurd (Finset.mem_univ _) h

/-- The credit for a transfer to receive, when there is one. -/
def due (c : Dev nD) (t : T) : sProp 𝕄 := if ract t c then cred (tallyAt (dCell (rq t) c) () N) else iprop(emp)
omit [FloatOps F] in
/-- The launch's credit covers a device's barrier wait and its arrivals. -/
theorem creds (c : Dev nD) :
    (Pipeline.launchCred owed₀ c : sProp 𝕄) ⊢ iprop(cred (tallyAt (barCell c) () (bars c).card) ∗ bigSep Finset.univ (due c)) := by
  unfold Pipeline.launchCred
  rw [bigSep_univ_at _ (SemLoc.reg barS), launch_bar]
  refine sep_mono_right ?_
  have hi : Function.Injective fun t : T => (SemLoc.dma (rq t) : SemLoc sig) := fun t t' h => rq_inj (by
    have h : (SemLoc.dma (rq t) : SemLoc sig) = .dma (rq t') := h
    injection h)
  have hs : Finset.univ.map ⟨fun t : T => (SemLoc.dma (rq t) : SemLoc sig), hi⟩ ⊆ Finset.univ.erase (SemLoc.reg barS) := fun sm h => by
    obtain ⟨t, -, rfl⟩ := Finset.mem_map.mp h
    exact Finset.mem_erase.mpr ⟨fun h => (by cases h), Finset.mem_univ _⟩
  refine (bigSep_subset hs).trans ?_
  rw [bigSep_map]
  refine bigSep_mono fun t _ => ?_
  unfold due
  by_cases h : ract t c
  · rw [if_pos h, ← launch_recv t c h]
    exact Entails.of_eq (PROP := sProp 𝕄) rfl
  · rw [if_neg h]; exact drop_to _

/-! ## Memory -/

omit [FloatOps F] in
/-- The operand's buffer, as a device's block of the operand. -/
theorem x_whole (c : Dev nD) : (((c : Thread nD τ).loc main_arg0) ↦{fullShare} m ((c : Thread nD τ).loc main_arg0) : sProp 𝕄) ⊢ xPts m c := by
  unfold xPts
  rw [show (xM : Memref sig .tc .hbm S8192x1024 .bf16).view.set = Finset.univ from View.set_whole _]
  iintro H
  iexists fullShare; iexact H
omit [FloatOps F] in
/-- The result's buffer is a device's own rows and the landing tiles, sorted by the direction they are granted along. -/
theorem out_whole (c : Dev nD) (f : S32768x1024.Idx → Elt F .bf16) :
    (((c : Thread nD τ).loc main_v1) ↦{fullShare} f : sProp 𝕄) ⊢ iprop((∃ f, ownPts c f) ∗ bigSep Finset.univ fun δ : Fin 4 => lands δ c) := by
  have e : (((c : Thread nD τ).loc main_v1) ↦{fullShare} f : sProp 𝕄)
      = (((c : Thread nD τ).loc main_v1) ↦[(outC c).view.set ∪ (Finset.univ.filter fun t : T => ract t c).biUnion (fun t => (outT (tile t c)).view.set)]{fullShare} f) := by
    rw [cover c]
  have e2 : (bigSep Finset.univ fun δ : Fin 4 => lands δ c : sProp 𝕄) = bigSep (Finset.univ.filter fun t : T => ract t c) fun t => landing t c :=
    (sorted dirOf (fun t => ract t c) (fun t => landing (F := F) t c)).trans (bigSep_filter _ (fun t : T => ract t c) _).symm
  have h3 : (bigSep (Finset.univ.filter fun t : T => ract t c) fun t => segPts t c fullShare f : sProp 𝕄)
      ⊢ bigSep (Finset.univ.filter fun t : T => ract t c) fun t => landing t c :=
    bigSep_mono fun t _ => by
      have h : segPts (F := F) t c fullShare f ⊢ landing t c := by
        unfold landing; iintro H; iexists f; iexact H
      exact h
  rw [e, e2]
  refine (pointsTo_union (disj_own c)).1.trans ?_
  rw [pointsTo_biUnion _ _ (disj_tiles c)]
  have h : ownPts (F := F) c f ⊢ iprop(∃ f, ownPts c f) := by
    iintro H; iexists f; iexact H
  exact BI.sep_mono h h3

/-! ## A device's holdings when its body starts -/

omit [FloatOps F] in
/-- The tokens and the place of a transfer's send cell are what is held of it before the barrier. -/
theorem pre_intro (c : Dev nD) (t : T) :
    iprop((dutyTok ER (dCell (sq t) c) 0 (.inr (.inl t)) ∗ dutyTok ER (dCell (rq t) (tgt t c)) 0 (.inr (.inr (.inl t))))
      ∗ atPos ER (dCell (sq t) c) 0 ∅ 0) ⊢ preSend (F := F) c t := by
  unfold preSend
  by_cases h : sact t c
  · rw [if_pos h]
  · rw [if_neg h]; iintro ⟨-, H⟩; iexact H
omit [FloatOps F] in
/-- A signal's token and the tiles it grants are what is held of it before any signal. -/
theorem sig_intro (c : Dev nD) (δ : Fin 4) : iprop(dutyTok ER (barCell (nb δ c)) 0 (.inl δ) ∗ lands δ c) ⊢ sigSt (F := F) c 0 δ := by
  unfold sigSt
  by_cases h : bact δ c
  · rw [if_pos ⟨h, Nat.zero_le _⟩]
  · rw [if_neg fun h' => h h'.1]; exact drop_to _
omit [FloatOps F] in
/-- The credit and the place of a receive cell are what is held of it at the start. -/
theorem recv_intro (c : Dev nD) (t : T) : iprop(due c t ∗ atPos ER (dCell (rq t) c) 0 ∅ 0) ⊢ recvSt (F := F) m c 0 t := by
  unfold due recvSt
  by_cases h : ract t c
  · rw [if_pos h, if_pos h, if_pos (Nat.zero_le _)]; exact Entails.of_eq rfl
  · rw [if_neg h, if_neg h]; iintro ⟨-, H⟩; iexact H

/-- All but what is owed. -/
def start (c : Dev nD) : sProp 𝕄 := iprop(∃ K, ((∃ W, owes (c : Thread nD τ) (owed₀ c) W) -∗ BSt (F := F) m K c 0))

omit [FloatOps F] in
/-- What the launch gives a device is what it starts with. -/
theorem start_of (c : Dev nD) :
    iprop(levAts L lv ∗ Pipeline.launchCred owed₀ c ∗ dealt' m c ∗ xPts m c ∗ (∃ f, ownPts c f) ∗ (bigSep Finset.univ fun δ : Fin 4 => lands δ c)) ⊢ start m c := by
  have h1 := bigSep_mono (M := 𝕄) (s := Finset.univ) fun t (_ : t ∈ (Finset.univ : Finset T)) => pre_intro (F := F) c t
  have h2 := bigSep_mono (M := 𝕄) (s := Finset.univ) fun t (_ : t ∈ (Finset.univ : Finset (Fin 4))) => sig_intro (F := F) c t
  have h3 := bigSep_mono (M := 𝕄) (s := Finset.univ) fun t (_ : t ∈ (Finset.univ : Finset T)) => recv_intro (F := F) m c t
  rw [bigSep_sep', bigSep_sep'] at h1
  rw [bigSep_sep'] at h2 h3
  have h1 : iprop(((bigSep Finset.univ fun t : T => dutyTok ER (dCell (sq t) c) 0 (.inr (.inl t)))
      ∗ (bigSep Finset.univ fun t : T => dutyTok ER (dCell (rq t) (tgt t c)) 0 (.inr (.inr (.inl t)))))
      ∗ (bigSep Finset.univ fun t : T => atPos ER (dCell (sq t) c) 0 ∅ 0)) ⊢ bigSep Finset.univ (preSend (F := F) c) := h1
  have h2 : iprop((bigSep Finset.univ fun δ : Fin 4 => dutyTok ER (barCell (nb δ c)) 0 (.inl δ)) ∗ (bigSep Finset.univ fun δ : Fin 4 => lands δ c))
      ⊢ bigSep Finset.univ (sigSt (F := F) c 0) := h2
  have h3 : iprop(bigSep Finset.univ (due c) ∗ (bigSep Finset.univ fun t : T => atPos ER (dCell (rq t) c) 0 ∅ 0))
      ⊢ bigSep Finset.univ (recvSt (F := F) m c 0) := h3
  unfold dealt' start payToks known
  rw [over_si]
  iintro ⟨#HL, Hcr, ⟨%K, ⟨#HI, #HR⟩, ⟨HaB, HaS, HaR, HaC⟩, HtB, HtS, HtR, HtC⟩, Hx, Ho, Hl⟩
  ihave Hc := (creds (F := F) c) $$ Hcr
  icases Hc with ⟨Hb, Hd⟩
  iexists K
  iintro HO
  unfold BSt toCopy records
  isplitr
  · isplitr; · iexact HI
    isplitr; · iexact HR
    iexact HL
  isplitl [Hx]; · iexact Hx
  isplitl [HtS HtR HaS]
  · iapply h1
    isplitr [HaS]
    · isplitl [HtS]; · iexact HtS
      iexact HtR
    iexact HaS
  isplitl [HO]; · iexact HO
  isplitl [HtB Hl]
  · iapply h2
    isplitl [HtB]; · iexact HtB
    iexact Hl
  isplitl [Hd HaR]
  · iapply h3
    isplitl [Hd]; · iexact Hd
    iexact HaR
  isplitl [HtC Ho HaC]
  · isplitr [HaC]
    · isplitl [HtC]; · iexact HtC
      iexact Ho
    iexact HaC
  isplitl [Hb]; · iexact Hb
  iexact HaB

end Cert.Gather
end
-- ==== Proof.Run.lean ====
/-
The run of @main on the mesh: it ends, every device's result is the gathered array, the operand is as it was and every
semaphore counter is at zero.
-/
module

public import proofs.«01_k».proof.Proof.Start
public import Idealize.ShloMosaic.Lib.Pipeline.CollectiveSegs

@[expose] public section

set_option synthInstance.maxSize 4096
set_option maxRecDepth 8000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-- What a device holds before and after its body, and what it owes. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => start m c
    | ⟨_ + 1, _⟩ => iprop(hold m c ∗ zeros c)
  q _ := fullShare
  owed t := match t with
    | ⟨0, _⟩ => owed₀ c
    | ⟨_ + 1, _⟩ => 0

/-- The body on a device, beside anything. -/
theorem body_beside (c : Dev nD) (R R' : sProp 𝕄) (hR : iprop(emp) ⊢ R') :
    iprop(start m c ∗ (dats (F := F) m ρ 0 c).owesAt () t0_0.castSucc ∗ R) ⊢ WP c (bodyAt0 (F := F) t0_0)
      fun _ => iprop((hold m c ∗ zeros c) ∗ (dats (F := F) m ρ 0 c).owesAt () t0_0.succ ∗ R') := by
  have h0 : (dats (F := F) m ρ 0 c).owesAt () t0_0.castSucc ⊢ iprop(∃ W, owes (c : Thread nD τ) (owed₀ c) W) := by
    unfold Dat.owesAt Pipeline.owesWithin
    iintro ⟨%W, -, H⟩
    iexists W; iexact H
  have h1 : iprop(∃ W, owes (c : Thread nD τ) 0 W) ⊢ (dats (F := F) m ρ 0 c).owesAt () t0_0.succ := by
    unfold Dat.owesAt Pipeline.owesWithin
    iintro ⟨%W, H⟩
    iexists W; isplitr
    · ipureintro; exact fun _ _ => Or.inl trivial
    iexact H
  have h2 : iprop((hold (F := F) m c ∗ zeros c) ∗ ∃ W, owes (c : Thread nD τ) 0 W)
      ⊢ iprop((hold m c ∗ zeros c) ∗ (dats (F := F) m ρ 0 c).owesAt () t0_0.succ ∗ R') := by
    iintro ⟨H, HO⟩
    isplitl [H]; · iexact H
    isplitl [HO]
    · iapply h1; iexact HO
    iapply hR; iempintro
  unfold start
  iintro ⟨⟨%K, HB⟩, HO, -⟩
  ihave HO := h0 $$ HO
  ihave HB := HB $$ HO
  iapply ((body_closed (m := m) (K := K) c).trans (wp_mono _ _ _ fun _ => h2))
  iexact HB

/-- The body on a device, as the launch asks for it. -/
theorem body_obligation (c : Dev nD) : BodyObligation (dats (F := F) m ρ 0 c) (defs₀ (F := F)) 𝒱₀ () Set.univ := fun t => by
  rw [fin_N0 t]
  exact body_beside m ρ c _ _ (Entails.of_eq bigSep_empty.symm)

/-- No window has a share, for there are no windows. -/
theorem share_eq (c : Dev nD) (w : Fin cfg0.W) : (dats (F := F) m ρ 0 c).share w = fullShare := w.elim0

/-! ## The launch's side conditions -/

omit [FloatOps F] in
/-- What the launch gives a device, memory included, is what its body starts with. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt' m c)
      ⊢ |={Set.univ}=> iprop(start m c ∗ emp) := by
  rw [Pipeline.unscopedRestP_none, unscopedRest0_eq]
  iintro ⟨⟨Hx, Ho⟩, Hlev, Hcr, -, HG⟩
  ihave Hx := (x_whole m c) $$ Hx
  ihave Ho := (out_whole c _) $$ Ho
  icases Ho with ⟨Ho, Hl⟩
  imodintro
  isplitl
  · iapply (start_of m c)
    isplitl [Hlev]; · iexact Hlev
    isplitl [Hcr]; · iexact Hcr
    isplitl [HG]; · iexact HG
    isplitl [Hx]; · iexact Hx
    isplitl [Ho]; · iexact Ho
    iexact Hl
  · iempintro

/-- The body's holdings at the start, -/
theorem phi0_intro (c : Dev nD) :
    iprop(start m c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = start m c from rfl]
  iintro ⟨H, -⟩
  iexact H

/-- and at the end: the counters at zero, the operand and the result. -/
theorem phi1_exit (c : Dev nD) :
    (dats (F := F) m ρ 0 c).Φ (Fin.last cfg0.N)
      ⊢ iprop((unscopedSems0 c ∗ hold m c) ∗ Pipeline.ownSems0 osem c ∗ Pipeline.scopedRest cfg0.spec c) := by
  rw [show (dats (F := F) m ρ 0 c).Φ (Fin.last cfg0.N) = iprop(hold m c ∗ zeros c) from rfl, scopedRest0_eq, unscopedSems0_eq]
  unfold zeros Pipeline.ownSems0
  iintro ⟨H, Hb, Hq⟩
  isplitl [Hb H]
  · isplitl [Hb] <;> iassumption
  isplitl [Hq]; · iexact Hq
  iempintro

/-- No window waits, for there are no windows. -/
theorem waits (c : Dev nD) : (levAts L lv : sProp 𝕄) ⊢ Pipeline.cellsWaits cfgs (dats m ρ) () 0 c :=
  Pipeline.cellsWaits_intro cfgs (dats m ρ) () 0 c fun w => w.elim0

/-! ## Reading the end -/

/-- A device's memory at the end: the operand as it was, the result gathered. -/
def Ends (c : Dev nD) (s : MemSt nD τ sig (Elt F)) : Prop :=
  s.mem ((c : Thread nD τ).loc main_v1) = G m c ∧ s.mem ((c : Thread nD τ).loc main_arg0) = m ((c : Thread nD τ).loc main_arg0)

omit [FloatOps F] in
/-- The tiles held at the end are in memory: what they hold is the gathered array. -/
theorem read_tiles (c : Dev nD) (s' : Phys nD τ sig (Elt F)) :
    iprop(Idealize.ShloMosaic.SI s' ∗ bigSep Finset.univ (rd' m c))
      ⊢ (⌜∀ t, ract t c → ∀ i ∈ (outT (tile t c)).view.set, s'.mem.mem ((c : Thread nD τ).loc main_v1) i = G m c i⌝ : sProp 𝕄) := by
  refine (forall_intro fun t => ?_).trans pure_forall.2
  by_cases h : ract t c
  · have h1 : bigSep Finset.univ (rd' m c) ⊢ rd m c t := by
      refine (bigSep_elim (Finset.mem_univ t)).trans ?_
      exact Entails.of_eq (PROP := sProp 𝕄) (if_pos h)
    iintro ⟨HS, H⟩
    ihave H := h1 $$ H
    unfold rd segPts
    icases H with ⟨%q, H⟩
    ihave %hr := (SI_pointsTo_agree) $$ [HS H]
    · isplitl [HS] <;> iassumption
    ipureintro
    exact fun _ => hr
  · iintro -
    ipureintro
    exact fun h' => absurd h' h

omit [FloatOps F] in
/-- What a device holds at the end is in its memory: the operand as it was, the result gathered. -/
theorem read_end (c : Dev nD) (s' : Phys nD τ sig (Elt F)) : iprop(hold m c ∗ Idealize.ShloMosaic.SI s') ⊢ (⌜Ends m c s'.mem⌝ : sProp 𝕄) := by
  unfold hold xPts ownPts
  iintro ⟨⟨⟨%q, Hx⟩, Ho, Ht⟩, HS⟩
  ihave %h1 := (SI_pointsTo_agree) $$ [HS Hx]
  · isplitl [HS] <;> iassumption
  ihave %h2 := (SI_pointsTo_agree) $$ [HS Ho]
  · isplitl [HS] <;> iassumption
  ihave %h3 := (read_tiles m c s') $$ [HS Ht]
  · isplitl [HS] <;> iassumption
  ipureintro
  refine ⟨funext fun i => ?_, funext fun i => h1 i ?_⟩
  · have hi : i ∈ (outC c).view.set ∪ (Finset.univ.filter fun t : T => ract t c).biUnion (fun t => (outT (tile t c)).view.set) := by
      rw [cover c]; exact Finset.mem_univ i
    rcases Finset.mem_union.mp hi with hi | hi
    · exact h2 i hi
    · obtain ⟨t, ht, hit⟩ := Finset.mem_biUnion.mp hi
      exact h3 t (Finset.mem_filter.mp ht).2 i hit
  · rw [show (xM : Memref sig .tc .hbm S8192x1024 .bf16).view.set = Finset.univ from View.set_whole _]
    exact Finset.mem_univ i

omit [FloatOps F] in
/-- At the end the barrier's counter is read at zero, and the memory as stated. -/
theorem read_all (c : Dev nD) (s' : Phys nD τ sig (Elt F)) :
    iprop((unscopedSems0 c ∗ hold m c) ∗ emp ∗ Idealize.ShloMosaic.SI s')
      ⊢ (|={Set.univ}=> iprop(⌜(∀ sm : SemLoc sig, sm.isScoped .tc = false → s'.mem.sem ((c.tc : Thread nD τ), sm) = 0) ∧ Ends m c s'.mem⌝ ∗ Idealize.ShloMosaic.SI s') : sProp 𝕄) := by
  iintro ⟨⟨Hu, Hh⟩, -, HSI⟩
  ihave %h := (read_end m c s') $$ [Hh HSI]
  · isplitl [Hh] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨h2, h⟩
  iexact HSI

/-! ## The run -/

/-- From any memory with zero counters, for any float values: every fair execution of @main on the mesh terminates, with
    each device's result the gathered array, its operand unchanged and every counter zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt m) (G' := dealt' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(unscopedSems0 c ∗ hold m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Ends m c s)
    (hY := read_all m)
    (hQ := fun _ h hs => ⟨fun c => (h c).2.2.2, sem_eq_zero hs fun c => (h c).2.2.1⟩)

end Cert.Gather
end
-- ==== Proof.Result.lean ====
/-
The value: on blocks of one array, the gathered array is that array; and the reference's run, which does nothing.
-/
module

public import proofs.«01_k».proof.Proof.Run
public import proofs.«01_k».proof.Proof.Gen.ReferenceIdeal
public import Idealize.ShloMosaic.Lib.Layout
public import Idealize.ShloMosaic.Lib.StableHlo

@[expose] public section

noncomputable section

namespace Cert.Gather

open Cert.KernelIdeal
open Idealize.ShloMosaic Idealize.ShloMosaic.TcCoe
open Idealize.SL.Sem

variable {F : FTy → Type} [FloatOps F]

/-- Which block of the array a device holds. -/
abbrev place (c : Dev nD) := Layout.meshBlock [2, 4, 4] ![[2], []] c
/-- The operand as the mesh holds it: a device's block is the one at its place along z. -/
abbrev blockOf (v : S32768x1024.Idx → Elt F .bf16) (c : Dev nD) : S8192x1024.Idx → Elt F .bf16 :=
  Layout.blockN ⟨2, ![8192, 1024]⟩ ⟨2, ![32768, 1024]⟩ (place c) v

/-- A device's block is at its place along z, -/
theorem meshRow : ∀ c : Dev nD, (place c (0 : Fin 2)).val = zc c := by decide +kernel
/-- and has all columns. -/
theorem meshCol : ∀ c : Dev nD, (place c (1 : Fin 2)).val = 0 := by decide +kernel

omit [FloatOps F] in
/-- If every device's operand is its block of `v`, every device's result is `v`. -/
theorem gathered (m : (ℓ : Loc nD τ sig) → Buf (Elt F) ℓ) (v : S32768x1024.Idx → Elt F .bf16)
    (h : ∀ c : Dev nD, xval m c = blockOf v c) (c : Dev nD) : G m c = v := by
  funext i
  have h0 : (i 0).val < 32768 := (i 0).isLt
  have hz : zc (orig c ((i 0).val / 8192) ((i 0).val / 2048 % 4)) = (i 0).val / 8192 :=
    orig_z c ⟨(i 0).val / 8192, by omega⟩ ⟨(i 0).val / 2048 % 4, by omega⟩
  unfold G
  rw [h]
  unfold blockOf
  rw [Layout.blockN_apply]
  refine congrArg v (funext fun b => Fin.ext ?_)
  rw [Layout.TilesN.idx_val]
  match b with
  | ⟨0, _⟩ =>
    show (place _ (0 : Fin 2)).val * 8192 + (i 0).val % 8192 = (i 0).val
    rw [meshRow, hz]; omega
  | ⟨1, _⟩ =>
    show (place _ (1 : Fin 2)).val * 1024 + (i 1).val = (i 1).val
    rw [meshCol]; omega

/-- The reference runs to the memory it started from, whose counters, of which it has none, are at zero. -/
theorem run_ref (m : (ℓ : Loc ReferenceIdeal.nD ReferenceIdeal.τ ReferenceIdeal.sig) → Buf (Elt F) ℓ) (ρ : Dev ReferenceIdeal.nD → PrngReg) :
    θ_run ReferenceIdeal.defs (onTc (τ := ReferenceIdeal.τ) (ReferenceIdeal.main (F := F))) ⟨m, fun _ => 0, ρ⟩ fun r =>
      (∀ c : Dev ReferenceIdeal.nD, r.2.mem ((c : Thread ReferenceIdeal.nD ReferenceIdeal.τ).loc ReferenceIdeal.main_arg0)
        = m ((c : Thread ReferenceIdeal.nD ReferenceIdeal.τ).loc ReferenceIdeal.main_arg0)) ∧ r.2.sem = fun _ => 0 :=
  (θ_run _ _ _).mono (fun r h => ⟨fun c => h c ReferenceIdeal.main_arg0, funext fun g => by
      rcases g with ⟨_, s | s⟩ <;> exact s.elim0⟩)
    (StableHlo.run_seq (by decide) (by decide) _ _ (fun _ => []) (fun _ => rfl) (fun _ => trivial) m ρ)

end Cert.Gather
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel as printed: its text is the idealized program's, whose run is for any float values. -/
theorem frame_kernel : Cert.quiescent_Kernel := fun m ρ _ =>
  (θ_run Cert.KernelIdeal.defs _ _).mono (fun _ h => ⟨fun c => (h.1 c).2, h.2⟩) (Cert.Gather.run_main (F := Bits) m ρ)
/-- The kernel read at the ideal instance. -/
theorem frame_ideal : Cert.quiescent_KernelIdeal := fun m ρ _ =>
  (θ_run Cert.KernelIdeal.defs _ _).mono (fun _ h => ⟨fun c => (h.1 c).2, h.2⟩) (Cert.Gather.run_main (F := Ideal) m ρ)
/-- The reference. -/
theorem frame_reference : Cert.quiescent_ReferenceIdeal := fun m ρ _ => Cert.Gather.run_ref (F := Ideal) m ρ
/-- Every device's result is the reference's, the whole array. -/
theorem value : Cert.algebraic_KernelIdeal_ReferenceIdeal := fun m ρ m' ρ' _ hx =>
  ⟨_, (θ_run Cert.KernelIdeal.defs _ _).mono
      (fun _ h c => ⟨(h.1 c).1.trans (Cert.Gather.gathered m _ hx c), (h.1 c).2⟩) (Cert.Gather.run_main (F := Ideal) m ρ),
    (θ_run Cert.ReferenceIdeal.defs _ _).mono (fun _ h => ⟨h.1 0, h.1 0⟩) (Cert.Gather.run_ref (F := Ideal) m' ρ')⟩

/-- All claims. -/
theorem claim : Cert.Claim := ⟨Cert.Kernel.Gen.facts, Cert.KernelIdeal.Gen.facts, Cert.ReferenceIdeal.Gen.facts,
  frame_kernel, frame_ideal, frame_reference, trivial, value⟩

end Cert.Proof

end
